-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Kernel_Reference_on_codes_and_scale [hKernel : Cert.Kernel.Facts] [hReference : Cert.Reference.Facts] [hOn_codes_and_scale : Cert.On_codes_and_scale.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v5)) (v1 : (c : Dev Cert.Kernel.nD) → Buf (Elt Bits) ((c.tc : Thread Cert.Kernel.nD Cert.Kernel.τ).loc Cert.Kernel.main_v6)) (v2 : (c : Dev Cert.Kernel.nD) → Buf (Elt Bits) ((c.tc : Thread Cert.Kernel.nD Cert.Kernel.τ).loc Cert.Kernel.main_arg3)),
      θ_run (Cert.Kernel.defs (F := Bits)) (onTc (τ := Cert.Kernel.τ) (Cert.Kernel.main (F := Bits))) ⟨m, fun _ => 0, g⟩ (fun r => ∀ c : Dev Cert.Kernel.nD,
          (∀ i : (⟨3, ![4, 8192, 4608]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 i = 1#1 → r.2.mem ((c.tc : Thread Cert.Kernel.nD Cert.Kernel.τ).loc Cert.Kernel.main_v5) i = v0 c i)
          ∧ (∀ i : (⟨3, ![4, 8192, 2048]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.1 i = 1#1 → r.2.mem ((c.tc : Thread Cert.Kernel.nD Cert.Kernel.τ).loc Cert.Kernel.main_v6) i = v1 c i)
          ∧ (∀ i : (⟨0, ![]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2 i = 1#1 → r.2.mem ((c.tc : Thread Cert.Kernel.nD Cert.Kernel.τ).loc Cert.Kernel.main_arg3) i = v2 c i)
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          (∀ i : (⟨3, ![4, 8192, 4608]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 i = 1#1 → r.2.mem ((c.tc : Thread Cert.Reference.nD Cert.Reference.τ).loc Cert.Reference.main_v5) i = v0 c i)
          ∧ (∀ i : (⟨3, ![4, 8192, 2048]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.1 i = 1#1 → r.2.mem ((c.tc : Thread Cert.Reference.nD Cert.Reference.τ).loc Cert.Reference.main_v6) i = v1 c i)
          ∧ (∀ i : (⟨0, ![]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2 i = 1#1 → r.2.mem ((c.tc : Thread Cert.Reference.nD Cert.Reference.τ).loc Cert.Reference.main_arg3) i = v2 c i)
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def Claim : Prop :=
  ∃ (hKernel : Cert.Kernel.Facts) (hKernelIdeal : Cert.KernelIdeal.Facts) (hReferenceIdeal : Cert.ReferenceIdeal.Facts) (hReference : Cert.Reference.Facts) (hOn_codes_and_scale : Cert.On_codes_and_scale.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference_on_codes_and_scale (hKernel := hKernel) (hReference := hReference) (hOn_codes_and_scale := hOn_codes_and_scale)
-- ==== On_codes_and_scale.lean ====
abbrev S4x8192x2048 : Shape := ⟨3, ![4, 8192, 2048]⟩
abbrev S2048x4608 : Shape := ⟨2, ![2048, 4608]⟩
abbrev S4608 : Shape := ⟨1, ![4608]⟩
abbrev S_ : Shape := ⟨0, ![]⟩
abbrev S4x8192x4608 : Shape := ⟨3, ![4, 8192, 4608]⟩

class Facts : Prop where
  bcast_S_S4x8192x4608 : S_.BroadcastsInDim S4x8192x4608 (![] : Fin 0 → Fin S4x8192x4608.rank)
  bcast_S_S4x8192x2048 : S_.BroadcastsInDim S4x8192x2048 (![] : Fin 0 → Fin S4x8192x2048.rank)

variable [Facts]

def fn {F : FTy → Type} [FloatOps F] (main_arg0 : FVec F S4x8192x2048 .bf16) (main_arg1 : FVec F S2048x4608 .fp8e4m3) (main_arg2 : FVec F S4608 .f32) (main_arg3 : FVec F S_ .f32) (main_arg4 : FVec F S4608 .bf16) : IVec S4x8192x4608 1 × IVec S4x8192x2048 1 × IVec S_ 1 :=
  let main_c : IVec S_ 1 := constantI S_ 1 0#1
  let main_v0 : IVec S4x8192x4608 1 := broadcastInDim S4x8192x4608 ![] bcast_S_S4x8192x4608 main_c
  let main_c_0 : IVec S_ 1 := constantI S_ 1 1#1
  let main_v1 : IVec S4x8192x2048 1 := broadcastInDim S4x8192x2048 ![] bcast_S_S4x8192x2048 main_c_0
  let main_c_1 : IVec S_ 1 := constantI S_ 1 1#1
  (main_v0, main_v1, main_c_1)
-- ==== Kernel.lean ====
abbrev S4x8192x2048 : Shape := ⟨3, ![4, 8192, 2048]⟩
abbrev S2048x4608 : Shape := ⟨2, ![2048, 4608]⟩
abbrev S4608 : Shape := ⟨1, ![4608]⟩
abbrev S_ : Shape := ⟨0, ![]⟩
abbrev S1 : Shape := ⟨1, ![1]⟩
abbrev S32768x2048 : Shape := ⟨2, ![32768, 2048]⟩
abbrev S1x4608 : Shape := ⟨2, ![1, 4608]⟩
abbrev S32768x4608 : Shape := ⟨2, ![32768, 4608]⟩
abbrev S512x2048 : Shape := ⟨2, ![512, 2048]⟩
abbrev S512x4608 : Shape := ⟨2, ![512, 4608]⟩
abbrev S2048x512 : Shape := ⟨2, ![2048, 512]⟩
abbrev S512x512 : Shape := ⟨2, ![512, 512]⟩
abbrev S1x512 : Shape := ⟨2, ![1, 512]⟩
abbrev S4x8192x4608 : Shape := ⟨3, ![4, 8192, 4608]⟩

abbrev nBuf : Space → Nat
  | .hbm => 13
  | .vmem => 9
  | .smem => 1
  | _ => 0

abbrev bufTy : (tb : Table) → Fin (tcTables nBuf tb) → BufTy
  | .hbm, ⟨0, _⟩ => ⟨S4x8192x2048, .bf16⟩
  | .hbm, ⟨1, _⟩ => ⟨S2048x4608, .fp8e4m3⟩
  | .hbm, ⟨2, _⟩ => ⟨S4608, .f32⟩
  | .hbm, ⟨3, _⟩ => ⟨S_, .f32⟩
  | .hbm, ⟨4, _⟩ => ⟨S4608, .bf16⟩
  | .hbm, ⟨5, _⟩ => ⟨S1, .f32⟩
  | .hbm, ⟨6, _⟩ => ⟨S32768x2048, .bf16⟩
  | .hbm, ⟨7, _⟩ => ⟨S1x4608, .f32⟩
  | .hbm, ⟨8, _⟩ => ⟨S1x4608, .bf16⟩
  | .hbm, ⟨9, _⟩ => ⟨S32768x4608, .bf16⟩
  | .hbm, ⟨10, _⟩ => ⟨S32768x2048, .fp8e4m3⟩
  | .hbm, ⟨11, _⟩ => ⟨S4x8192x4608, .bf16⟩
  | .hbm, ⟨12, _⟩ => ⟨S4x8192x2048, .fp8e4m3⟩
  | .local _ .vmem, ⟨0, _⟩ => ⟨S512x2048, .bf16⟩
  | .local _ .vmem, ⟨1, _⟩ => ⟨S512x2048, .bf16⟩
  | .local _ .vmem, ⟨2, _⟩ => ⟨S2048x4608, .fp8e4m3⟩
  | .local _ .vmem, ⟨3, _⟩ => ⟨S1x4608, .f32⟩
  | .local _ .vmem, ⟨4, _⟩ => ⟨S1x4608, .bf16⟩
  | .local _ .vmem, ⟨5, _⟩ => ⟨S512x4608, .bf16⟩
  | .local _ .vmem, ⟨6, _⟩ => ⟨S512x4608, .bf16⟩
  | .local _ .vmem, ⟨7, _⟩ => ⟨S512x2048, .fp8e4m3⟩
  | .local _ .vmem, ⟨8, _⟩ => ⟨S512x2048, .fp8e4m3⟩
  | .local _ .smem, ⟨0, _⟩ => ⟨S1, .f32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4608 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference.lean ====
abbrev S4x8192x2048 : Shape := ⟨3, ![4, 8192, 2048]⟩
abbrev S2048x4608 : Shape := ⟨2, ![2048, 4608]⟩
abbrev S4608 : Shape := ⟨1, ![4608]⟩
abbrev S_ : Shape := ⟨0, ![]⟩
abbrev S1 : Shape := ⟨1, ![1]⟩
abbrev S32768x2048 : Shape := ⟨2, ![32768, 2048]⟩
abbrev S1x4608 : Shape := ⟨2, ![1, 4608]⟩
abbrev S32768x4608 : Shape := ⟨2, ![32768, 4608]⟩
abbrev S4x8192x4608 : Shape := ⟨3, ![4, 8192, 4608]⟩

abbrev nBuf : Space → Nat
  | .hbm => 13
  | .vmem => 6
  | .smem => 1
  | _ => 0

abbrev bufTy : (tb : Table) → Fin (tcTables nBuf tb) → BufTy
  | .hbm, ⟨0, _⟩ => ⟨S4x8192x2048, .bf16⟩
  | .hbm, ⟨1, _⟩ => ⟨S2048x4608, .fp8e4m3⟩
  | .hbm, ⟨2, _⟩ => ⟨S4608, .f32⟩
  | .hbm, ⟨3, _⟩ => ⟨S_, .f32⟩
  | .hbm, ⟨4, _⟩ => ⟨S4608, .bf16⟩
  | .hbm, ⟨5, _⟩ => ⟨S1, .f32⟩
  | .hbm, ⟨6, _⟩ => ⟨S32768x2048, .bf16⟩
  | .hbm, ⟨7, _⟩ => ⟨S1x4608, .f32⟩
  | .hbm, ⟨8, _⟩ => ⟨S1x4608, .bf16⟩
  | .hbm, ⟨9, _⟩ => ⟨S32768x4608, .bf16⟩
  | .hbm, ⟨10, _⟩ => ⟨S32768x2048, .fp8e4m3⟩
  | .hbm, ⟨11, _⟩ => ⟨S4x8192x4608, .bf16⟩
  | .hbm, ⟨12, _⟩ => ⟨S4x8192x2048, .fp8e4m3⟩
  | .local _ .vmem, ⟨0, _⟩ => ⟨S32768x2048, .bf16⟩
  | .local _ .vmem, ⟨1, _⟩ => ⟨S2048x4608, .fp8e4m3⟩
  | .local _ .vmem, ⟨2, _⟩ => ⟨S1x4608, .f32⟩
  | .local _ .vmem, ⟨3, _⟩ => ⟨S1x4608, .bf16⟩
  | .local _ .vmem, ⟨4, _⟩ => ⟨S32768x4608, .bf16⟩
  | .local _ .vmem, ⟨5, _⟩ => ⟨S32768x2048, .fp8e4m3⟩
  | .local _ .smem, ⟨0, _⟩ => ⟨S1, .f32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x4608 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Spec.lean ====
/-
  WHAT THE LAYER COMPUTES, as functions of its arrays — shared by the kernel's proof and the reference's.

    `codes`    the activation codes: every element divided by the scale, clipped to ±448 and stored in e4m3 (any values)
    `linear`   the layer's output over the extended reals: the product of the codes with the weights, times the scale and
               the column's weight scale, plus the column's bias
    `linear_strip` the output over a strip of columns needs only that strip of the weights, their scales and the biases
    `linear_rows`  the output over some rows needs only those rows of the activations
    `strip_apply`  the vector operations the programs write that formula with, read at one index
-/
module

public import Idealize.ShloMosaic.Lib.Pipeline.Value
public import Idealize.ShloMosaic.Lib.ValueIdx
public import Idealize.ShloMosaic.Lib.MatmulPlain
public import Idealize.ShloMosaic.PureOps.Ideal.Laws

@[expose] public section

set_option maxRecDepth 16384

noncomputable section

namespace Cert.Spec

open Idealize.ShloMosaic Idealize.ShloMosaic.ValueIdx
open scoped BigOperators

/-! ## The codes -/

section AnyValues
variable {F : FTy → Type} [FloatOps F]

/-- The code of one activation `v` under the scale `s`: `v / s`, at least −448, at most 448, in e4m3. -/
def quant (s : F .f32) (v : F .bf16) : F .fp8e4m3 :=
  FloatOps.truncf .fp8e4m3 (by decide)
    (FloatOps.minimumf (Scalar.ofBits .f32 0x43E00000#32)
      (FloatOps.maximumf (Scalar.ofBits .f32 0xC3E00000#32)
        (FloatOps.divf (FloatOps.extf .f32 (by decide) v) s)))

/-- The codes of an array of activations, element by element. -/
def codes {S : Shape} (s : F .f32) (x : FVec F S .bf16) : FVec F S .fp8e4m3 := fun j => quant s (x j)

end AnyValues

/-! ## The layer, over the extended reals -/

/-- The layer's output at row `r` and column `n`: `(∑ₖ codes[r,k] · w[k,n]) · (s · ws[n]) + b[n]`. -/
def linear {M N : ℕ} (s : Ideal .f32) (x : FVec Ideal ⟨2, ![M, 2048]⟩ .bf16) (w : FVec Ideal ⟨2, ![2048, N]⟩ .fp8e4m3)
    (ws : FVec Ideal ⟨2, ![1, N]⟩ .f32) (b : FVec Ideal ⟨2, ![1, N]⟩ .bf16) : FVec Ideal ⟨2, ![M, N]⟩ .bf16 :=
  fun j => (∑ k : Fin 2048, codes s x (ix2 (j 0) k) * w (ix2 k (j 1))) * (s * ws (ix2 0 (j 1))) + b (ix2 0 (j 1))

/-- The layer over some rows of the activations is those rows of the layer. -/
theorem linear_rows {M M' N : ℕ} (s : Ideal .f32) (x : FVec Ideal ⟨2, ![M, 2048]⟩ .bf16) (x' : FVec Ideal ⟨2, ![M', 2048]⟩ .bf16)
    (w : FVec Ideal ⟨2, ![2048, N]⟩ .fp8e4m3) (ws : FVec Ideal ⟨2, ![1, N]⟩ .f32) (b : FVec Ideal ⟨2, ![1, N]⟩ .bf16)
    (row : Fin M → Fin M') (hx : ∀ r k, x (ix2 r k) = x' (ix2 (row r) k)) (r : Fin M) (n : Fin N) :
    linear s x w ws b (ix2 r n) = linear s x' w ws b (ix2 (row r) n) := by
  show (∑ k : Fin 2048, quant s (x (ix2 r k)) * w (ix2 k n)) * (s * ws (ix2 0 n)) + b (ix2 0 n)
    = (∑ k : Fin 2048, quant s (x' (ix2 (row r) k)) * w (ix2 k n)) * (s * ws (ix2 0 n)) + b (ix2 0 n)
  simp only [hx]

/-- The only index of a one-element array. -/
abbrev only : (⟨1, ![1]⟩ : Shape).Idx := ix1 (0 : Fin 1)

/-- A one-element load of a one-element array reads that element. -/
theorem ld_only {Val : EltTy → Type} {e : EltTy} (x : (⟨1, ![1]⟩ : Shape).Idx → Val e)
    (h : ∀ a, (![0] : Fin 1 → ℕ) a + (![1] : Fin 1 → ℕ) a ≤ (⟨1, ![1]⟩ : Shape).size a) (j : (⟨1, ![1]⟩ : Shape).Idx) :
    View.ld (Val := Val) (e' := e) x (Rect.unit (s := ⟨1, ![1]⟩) ![0] ![1] h) j = x only := by
  refine congrArg x (funext fun a => Fin.ext ?_)
  match a with
  | ⟨0, _⟩ =>
    show 0 + 1 * (j 0).val = 0
    have : (j 0).val < 1 := (j 0).isLt
    omega

/-- The layer over the `C` columns from column `off`, computed from those columns of the weights, the weight scales and
    the biases, is those columns of the layer. -/
theorem linear_strip {M N C : ℕ} (s : Ideal .f32) (x : FVec Ideal ⟨2, ![M, 2048]⟩ .bf16) (w : FVec Ideal ⟨2, ![2048, N]⟩ .fp8e4m3)
    (ws : FVec Ideal ⟨2, ![1, N]⟩ .f32) (b : FVec Ideal ⟨2, ![1, N]⟩ .bf16) (off : ℕ)
    (hw : ∀ a, (![0, off] : Fin 2 → ℕ) a + (![2048, C] : Fin 2 → ℕ) a ≤ (⟨2, ![2048, N]⟩ : Shape).size a)
    (hr : ∀ a, (![0, off] : Fin 2 → ℕ) a + (![1, C] : Fin 2 → ℕ) a ≤ (⟨2, ![1, N]⟩ : Shape).size a)
    (ho : ∀ a, (![0, off] : Fin 2 → ℕ) a + (![M, C] : Fin 2 → ℕ) a ≤ (⟨2, ![M, N]⟩ : Shape).size a)
    (j : (⟨2, ![M, C]⟩ : Shape).Idx) :
    linear (N := C) s x (View.ld (Val := Elt Ideal) (e' := .fp8e4m3) w (Rect.unit (s := ⟨2, ![2048, N]⟩) ![0, off] ![2048, C] hw))
        (View.ld (Val := Elt Ideal) (e' := .f32) ws (Rect.unit (s := ⟨2, ![1, N]⟩) ![0, off] ![1, C] hr))
        (View.ld (Val := Elt Ideal) (e' := .bf16) b (Rect.unit (s := ⟨2, ![1, N]⟩) ![0, off] ![1, C] hr)) j
      = linear s x w ws b ((Rect.unit (s := ⟨2, ![M, N]⟩) ![0, off] ![M, C] ho).emb j) := by
  have h0 : ((Rect.unit (s := ⟨2, ![M, N]⟩) ![0, off] ![M, C] ho).emb j 0 : Fin M) = j 0 :=
    Fin.ext (by show 0 + 1 * (j 0).val = (j 0).val; omega)
  have hcol : ∀ (K : ℕ) (k : Fin K) (h : ∀ a, (![0, off] : Fin 2 → ℕ) a + (![K, C] : Fin 2 → ℕ) a ≤ (⟨2, ![K, N]⟩ : Shape).size a),
      (Rect.unit (s := ⟨2, ![K, N]⟩) ![0, off] ![K, C] h).idx (ix2 k (j 1))
        = ix2 k ((Rect.unit (s := ⟨2, ![M, N]⟩) ![0, off] ![M, C] ho).emb j 1) := fun K k h => by
    funext a
    match a with
    | ⟨0, _⟩ => exact Fin.ext (by show 0 + 1 * k.val = k.val; omega)
    | ⟨1, _⟩ => rfl
  show (∑ k : Fin 2048, codes s x (ix2 (j 0) k) * w _) * (s * ws _) + b _ = (∑ k : Fin 2048, codes s x (ix2 _ k) * w _) * (s * ws _) + b _
  rw [h0]
  simp only [hcol]
  rfl

/-- A one-row array broadcast down the rows, read at `(r, n)`, is the row read at `n`. -/
theorem broadcast_row_apply {α : Type} {M N : ℕ} (v : (⟨2, ![1, N]⟩ : Shape).Idx → α)
    (h : (⟨2, ![1, N]⟩ : Shape).Broadcasts ⟨2, ![M, N]⟩) (r : Fin M) (n : Fin N) :
    broadcastTo ⟨2, ![M, N]⟩ v h (ix2 r n) = v (ix2 0 n) := by
  refine broadcastTo_apply v h (ix2 r n) (ix2 0 n) fun a => ?_
  match a with
  | ⟨0, _⟩ => rfl
  | ⟨1, _⟩ =>
    show n.val = if N = 1 then 0 else n.val
    split
    · have := n.isLt; omega
    · rfl

/-- The programs' spelling of the layer over a strip of `N` columns — a product from a zero accumulator, the scale
    times the row of weight scales broadcast down the rows, the row of biases broadcast down the rows — is `linear`. -/
theorem strip_apply {M N : ℕ} (s : Ideal .f32) (x : FVec Ideal ⟨2, ![M, 2048]⟩ .bf16)
    (w : FVec Ideal ⟨2, ![2048, N]⟩ .fp8e4m3) (ws : FVec Ideal ⟨2, ![1, N]⟩ .f32) (b : FVec Ideal ⟨2, ![1, N]⟩ .bf16)
    (h : (⟨2, ![1, N]⟩ : Shape).Broadcasts ⟨2, ![M, N]⟩) :
    (truncf .bf16 (addf (mulf
        (matmul (DotDims.plain M 2048 N) none (codes s x) w (constant (F := Ideal) ⟨2, ![M, N]⟩ .f32 0x00000000#32))
        (broadcastTo ⟨2, ![M, N]⟩ (mulf (broadcast ⟨2, ![1, N]⟩ s) ws) h))
      (broadcastTo ⟨2, ![M, N]⟩ (extf .f32 b) h)) : FVec Ideal ⟨2, ![M, N]⟩ .bf16) = linear s x w ws b := by
  funext j
  obtain ⟨r, n, rfl⟩ : ∃ r n, j = ix2 r n := ⟨j 0, j 1, eq_ix2 j⟩
  rw [truncf_apply, addf_apply, mulf_apply, broadcast_row_apply, broadcast_row_apply]
  show FloatOps.matmul _ none _ _ _ _ * _ + _ = _
  rw [Ideal.matmul_plain_apply, constant_apply, Ideal.ofBits_zero_f32, zero_add]
  rfl

end Cert.Spec

end
-- ==== Proof.KernelIdealBlock.lean ====
module

public import proofs.«01_k».proof.Proof.Spec
public import proofs.«01_k».proof.Proof.Gen.KernelIdeal.Frame
public import Idealize.ShloMosaic.Lib.Pipeline.ValueKit
public import Idealize.ShloMosaic.Lib.Tactic

/-! What one grid point computes. From the scale, a block of 512 rows of activations and the whole weights, weight scales
    and biases, the body leaves the codes of its rows in one buffer (`out_codes`, any values of the floats) and, over the
    extended reals, the layer's output at its rows in the other (`out_y`), nine strips of 512 columns wide. -/

@[expose] public section

set_option maxRecDepth 16384

noncomputable section

namespace Cert.KernelIdeal.Value

open Idealize.ShloMosaic hiding ix0 ix2 eq_ix2
open Idealize.ShloMosaic.TcCoe Idealize.ShloMosaic.ValueIdx Idealize.SL.Sem
open Cert.KernelIdeal Cert.KernelIdeal.Gen

variable {F : FTy → Type} [FloatOps F]

/-- The two-axis zero offset, entry by entry. -/
theorem hz : (![0, 0] : Fin 2 → Nat) = fun _ => 0 := funext fun a => by fin_cases a <;> rfl

/-- The value the body stores into the buffer of codes is the codes of the rows it read. -/
theorem pay2_eq (v0 : Elt F .f32) (v1 : Vec F S512x2048 .bf16) : k0_pay2 v0 v1 = Cert.Spec.codes v0 v1 := by
  unfold k0_pay2
  simp only [shapeCast_self]
  rfl

/-- WHAT THE BODY LEAVES in its buffer of codes: the codes of its 512 rows under the scale. -/
theorem out_codes (c : Dev nD) (i : grid0.Coords) (arg1 : Memref sig .tc .smem S1 .f32) (harg1 : arg1.IsWhole) (arg2 : Memref sig .tc .vmem S512x2048 .bf16) (harg2 : arg2.IsWhole) (arg3 : Memref sig .tc .vmem S2048x4608 .fp8e4m3) (harg3 : arg3.IsWhole) (arg4 : Memref sig .tc .vmem S1x4608 .f32) (harg4 : arg4.IsWhole) (arg5 : Memref sig .tc .vmem S1x4608 .bf16) (harg5 : arg5.IsWhole) (arg6 : Memref sig .tc .vmem S512x4608 .bf16) (harg6 : arg6.IsWhole) (arg7 : Memref sig .tc .vmem S512x2048 .fp8e4m3) (harg7 : arg7.IsWhole)
    (x0 : Vec F S1 .f32) (x1 : Vec F S512x2048 .bf16) (x2 : Vec F S2048x4608 .fp8e4m3) (x3 : Vec F S1x4608 .f32) (x4 : Vec F S1x4608 .bf16) :
    out0_A_6 c i arg1 harg1 arg2 harg2 arg3 harg3 arg4 harg4 arg5 harg5 arg6 harg6 arg7 harg7 x0 x1 x2 x3 x4
      = Cert.Spec.codes (x0 Cert.Spec.only) x1 := by
  unfold out0_A_6
  rw [View.read_writes_eq_canon _ _ _ (cover0_A_6 c i arg1 harg1 arg2 harg2 arg3 harg3 arg4 harg4 arg5 harg5 arg6 harg6 arg7 harg7 x0 x1 x2 x3 x4)]
  unfold kernelRun0_A
  dsimp only
  sl_unfold_words
  rw [View.canon_unit_zero hz]
  simp only [View.readAt_eq_ld, harg1.read_unread, harg2.read_unread, View.ld_unit_zero (S := S512x2048) hz, pay2_eq]
  exact congrArg (Cert.Spec.codes · x1) (Cert.Spec.ld_only x0 _ _)

/-- ONE STRIP: what the body stores in the 512 columns from `off` — computed from those columns of the weights, the weight
    scales and the biases — is the layer's output there. -/
theorem strip_eq (s : Ideal .f32) (x1 : Vec Ideal S512x2048 .bf16) (x2 : Vec Ideal S2048x4608 .fp8e4m3)
    (x3 : Vec Ideal S1x4608 .f32) (x4 : Vec Ideal S1x4608 .bf16) (off : ℕ)
    (hw : ∀ a, (![0, off] : Fin 2 → ℕ) a + S2048x512.size a ≤ S2048x4608.size a)
    (hr : ∀ a, (![0, off] : Fin 2 → ℕ) a + S1x512.size a ≤ S1x4608.size a)
    (ho : ∀ a, (![0, off] : Fin 2 → ℕ) a + S512x512.size a ≤ S512x4608.size a) (j : S512x512.Idx) :
    (truncf .bf16 (addf (mulf
        (matmul (φ₂ := .fp8e4m3) dot_S512x2048_S2048x512_S512x512_1_0_0_1_n_n none (Cert.Spec.codes s x1)
          (View.ld (Val := Elt Ideal) (e' := .fp8e4m3) x2 (Rect.unit (s := S2048x4608) ![0, off] S2048x512.size hw))
          (constant (F := Ideal) S512x512 .f32 0x00000000#32))
        (broadcastTo S512x512 (mulf (broadcast S1x512 s)
          (View.ld (Val := Elt Ideal) (e' := .f32) x3 (Rect.unit (s := S1x4608) ![0, off] S1x512.size hr))) broadcasts_S1x512_S512x512))
      (broadcastTo S512x512 (extf .f32
          (View.ld (Val := Elt Ideal) (e' := .bf16) x4 (Rect.unit (s := S1x4608) ![0, off] S1x512.size hr)) bitsLt_bf16_f32)
        broadcasts_S1x512_S512x512)) bitsLt_bf16_f32 : FVec Ideal S512x512 .bf16) j
      = Cert.Spec.linear s x1 x2 x3 x4 ((Rect.unit (s := S512x4608) ![0, off] S512x512.size ho).emb j) :=
  (congrFun (Cert.Spec.strip_apply (M := 512) (N := 512) s x1 _ _ _ broadcasts_S1x512_S512x512) j).trans
    (Cert.Spec.linear_strip (M := 512) (N := 4608) (C := 512) s x1 x2 x3 x4 off hw hr ho j)

set_option maxHeartbeats 2000000 in
/-- WHAT THE BODY LEAVES in its output buffer: the layer of its 512 rows. Its nine stores cover the buffer, and each holds
    the layer at its own strip of columns (`strip_eq`). -/
theorem out_y (c : Dev nD) (i : grid0.Coords) (arg1 : Memref sig .tc .smem S1 .f32) (harg1 : arg1.IsWhole) (arg2 : Memref sig .tc .vmem S512x2048 .bf16) (harg2 : arg2.IsWhole) (arg3 : Memref sig .tc .vmem S2048x4608 .fp8e4m3) (harg3 : arg3.IsWhole) (arg4 : Memref sig .tc .vmem S1x4608 .f32) (harg4 : arg4.IsWhole) (arg5 : Memref sig .tc .vmem S1x4608 .bf16) (harg5 : arg5.IsWhole) (arg6 : Memref sig .tc .vmem S512x4608 .bf16) (harg6 : arg6.IsWhole) (arg7 : Memref sig .tc .vmem S512x2048 .fp8e4m3) (harg7 : arg7.IsWhole)
    (x0 : Vec Ideal S1 .f32) (x1 : Vec Ideal S512x2048 .bf16) (x2 : Vec Ideal S2048x4608 .fp8e4m3) (x3 : Vec Ideal S1x4608 .f32) (x4 : Vec Ideal S1x4608 .bf16) :
    out0_A_5 c i arg1 harg1 arg2 harg2 arg3 harg3 arg4 harg4 arg5 harg5 arg6 harg6 arg7 harg7 x0 x1 x2 x3 x4
      = Cert.Spec.linear (x0 Cert.Spec.only) x1 x2 x3 x4 := by
  funext y
  have hcov := cover0_A_5 c i arg1 harg1 arg2 harg2 arg3 harg3 arg4 harg4 arg5 harg5 arg6 harg6 arg7 harg7 x0 x1 x2 x3 x4
  unfold out0_A_5
  rw [View.read_writes_eq_canon _ _ _ hcov]
  refine View.canon_apply_of_pieces _ _ ?_ y (hcov y)
  clear hcov
  unfold kernelRun0_A
  dsimp only
  sl_unfold_words
  intro p hp
  simp only [List.mem_cons, List.mem_nil_iff, or_false] at hp
  rcases hp with rfl | rfl | rfl | rfl | rfl | rfl | rfl | rfl | rfl
  all_goals
    intro j
    dsimp only
    simp only [View.readAt_eq_ld, harg1.read_unread, harg2.read_unread, harg3.read_unread, harg4.read_unread,
      harg5.read_unread, View.ld_unit_zero (S := S512x2048) hz, View.readCov_unit_zero (S := S512x2048) _ hz, pay2_eq,
      k0_pay1, k0_pay3, k0_pay4, k0_pay5, k0_pay6, k0_pay7, k0_pay8, k0_pay9, k0_pay10, k0_pay11, k0_pay12, k0_pay13,
      k0_pay14, k0_pay15, k0_pay16, k0_pay17, shapeCast_self]
    rw [show View.ld x0 (Rect.unit ![0] ![1] inb_S1_S1_0) _ = x0 Cert.Spec.only from Cert.Spec.ld_only x0 _ _]
    exact strip_eq _ _ _ _ _ _ _ _ _ j

end Cert.KernelIdeal.Value

end
-- ==== Proof.KernelIdealArrays.lean ====
module

public import proofs.«01_k».proof.Proof.KernelIdealBlock

/-! What the kernel's two output arrays hold when its pipeline ends. Point `t` works on rows `512 t … 512 t + 511`; the 64
    blocks of rows cover each array, so the array of codes ends with the codes of all the activations (`final_codes`) and
    the output array, over the extended reals, with the layer of the whole arrays (`final_y`). -/

@[expose] public section

set_option maxRecDepth 16384

noncomputable section

namespace Cert.KernelIdeal.Value

open Idealize.ShloMosaic hiding ix0 ix2 eq_ix2
open Idealize.ShloMosaic.TcCoe Idealize.ShloMosaic.ValueIdx Idealize.SL.Sem
open Idealize.ShloMosaic.Pipeline (Dat)
open Cert.KernelIdeal Cert.KernelIdeal.Gen

/-! ## The blocks the body reads -/

section AnyValues
variable {F : FTy → Type} [FloatOps F]
variable (m : (ℓ : Loc nD τ sig) → Buf (Elt F) ℓ) (ρ : Dev nD → PrngReg)

/-- The activations' block at point `t` is block `t` of the rows and the only one of the columns. -/
theorem index_x : ∀ t : Fin grid0.N, win0_1.index t 0 = t.val ∧ win0_1.index t 1 = 0 := by decide +kernel
/-- So is the output's. -/
theorem index_y : ∀ t : Fin grid0.N, win0_5.index t 0 = t.val ∧ win0_5.index t 1 = 0 := by decide +kernel
/-- So is the codes'. -/
theorem index_codes : ∀ t : Fin grid0.N, win0_6.index t 0 = t.val ∧ win0_6.index t 1 = 0 := by decide +kernel

/-- Row `r` of the block of point `t` is row `512 t + r` of the array. -/
def row (t : Fin cfg0.N) (r : Fin 512) : Fin 32768 :=
  ⟨512 * t.val + r.val, by have h : t.val < 64 := t.isLt.trans_eq N_0; have := r.isLt; omega⟩

/-- The scale as the body reads it: the one element of its array. -/
theorem iblk_scale (c : Dev nD) (t : Fin cfg0.N) : (iblk m c 0 t : Vec F S1 .f32) = V m c main_v0 := by
  funext j
  unfold iblk
  rw [View.read_apply]
  show V m c main_v0 _ = _
  refine congrArg _ (funext fun a => Fin.ext ?_)
  match a with
  | ⟨0, _⟩ => show 0 * 1 + 1 * (j 0).val = (j 0).val; omega

/-- The activations' block at point `t`: rows `512 t …` of the array. -/
theorem iblk_x (c : Dev nD) (t : Fin cfg0.N) (r : Fin 512) (k : Fin 2048) :
    (iblk m c 1 t : Vec F S512x2048 .bf16) (ix2 r k) = V m c main_v1 (ix2 (row t r) k) := by
  unfold iblk
  rw [View.read_apply]
  show V m c main_v1 _ = _
  refine congrArg _ (funext fun a => Fin.ext ?_)
  match a with
  | ⟨0, _⟩ => show win0_1.index t 0 * 512 + 1 * r.val = 512 * t.val + r.val; rw [(index_x t).1]; omega
  | ⟨1, _⟩ => show win0_1.index t 1 * 2048 + 1 * k.val = k.val; rw [(index_x t).2]; omega

/-- The weights' block is the whole array at every point. -/
theorem iblk_w (c : Dev nD) (t : Fin cfg0.N) : (iblk m c 2 t : Vec F S2048x4608 .fp8e4m3) = V m c main_arg1 := by
  funext j
  unfold iblk
  rw [View.read_apply]
  show V m c main_arg1 _ = _
  refine congrArg _ (funext fun a => Fin.ext ?_)
  match a with
  | ⟨0, _⟩ => show 0 * 2048 + 1 * (j 0).val = (j 0).val; omega
  | ⟨1, _⟩ => show 0 * 4608 + 1 * (j 1).val = (j 1).val; omega

/-- So is the weight scales'. -/
theorem iblk_ws (c : Dev nD) (t : Fin cfg0.N) : (iblk m c 3 t : Vec F S1x4608 .f32) = V m c main_v2 := by
  funext j
  unfold iblk
  rw [View.read_apply]
  show V m c main_v2 _ = _
  refine congrArg _ (funext fun a => Fin.ext ?_)
  match a with
  | ⟨0, _⟩ => show 0 * 1 + 1 * (j 0).val = (j 0).val; omega
  | ⟨1, _⟩ => show 0 * 4608 + 1 * (j 1).val = (j 1).val; omega

/-- So is the biases'. -/
theorem iblk_b (c : Dev nD) (t : Fin cfg0.N) : (iblk m c 4 t : Vec F S1x4608 .bf16) = V m c main_v3 := by
  funext j
  unfold iblk
  rw [View.read_apply]
  show V m c main_v3 _ = _
  refine congrArg _ (funext fun a => Fin.ext ?_)
  match a with
  | ⟨0, _⟩ => show 0 * 1 + 1 * (j 0).val = (j 0).val; omega
  | ⟨1, _⟩ => show 0 * 4608 + 1 * (j 1).val = (j 1).val; omega

/-! ## The array of codes -/

/-- The codes of the whole array of activations. -/
abbrev codesVal (c : Dev nD) : Buf (Elt F) ((c : Thread nD τ).loc main_v4_1) :=
  (Cert.Spec.codes (V m c main_v0 Cert.Spec.only) (V m c main_v1) : Vec F S32768x2048 .fp8e4m3)

/-- What the pipeline writes back at point `t` is the codes of its rows. -/
theorem flushed_codes (c : Dev nD) (t : Fin cfg0.N) :
    (dats m 0 c).flushed 6 t = ((cfg0.win 6).blk t).view.read (Elt F) (codesVal m c) := by
  show (cfg0.win 6).cut (grid0.coords t) ((dats m 0 c).after 6 t) = _
  rw [after0_6]
  unfold outsAt0
  rw [out_codes, iblk_scale]
  funext j
  obtain ⟨r, k, rfl⟩ : ∃ (r : Fin 512) (k : Fin 2048), j = ix2 r k := ⟨j 0, j 1, eq_ix2 j⟩
  rw [View.read_apply]
  show Cert.Spec.quant _ ((iblk m c 1 t : Vec F S512x2048 .bf16) (ix2 r k)) = Cert.Spec.quant _ (V m c main_v1 _)
  rw [iblk_x]
  refine congrArg (fun i => Cert.Spec.quant _ (V m c main_v1 i)) (funext fun a => Fin.ext ?_)
  match a with
  | ⟨0, _⟩ => show 512 * t.val + r.val = win0_6.index t 0 * 512 + 1 * r.val; rw [(index_codes t).1]; omega
  | ⟨1, _⟩ => show k.val = win0_6.index t 1 * 2048 + 1 * k.val; rw [(index_codes t).2]; omega

/-- Every element is written back at the point of its block of 512 rows. -/
theorem cover_codes (i : S32768x2048.Idx) :
    ∃ t : Fin cfg0.N, (cfg0.win 6).flush t = true ∧ i ∈ ((cfg0.win 6).blk t).view.set := by
  have h0 : (i 0).val < 32768 := (i 0).isLt
  have h1 : (i 1).val < 2048 := (i 1).isLt
  obtain ⟨t, ht⟩ : ∃ t : Fin cfg0.N, t.val = (i 0).val / 512 := ⟨⟨(i 0).val / 512, by rw [show cfg0.N = 64 from N_0]; omega⟩, rfl⟩
  refine ⟨t, flush0_6 t, ?_⟩
  show i ∈ ((View.whole main_v4_1).slice (win0_6.rect t)).set
  rw [View.set_slice_whole, Rect.mem_set_unit]
  intro a
  match a with
  | ⟨0, _⟩ =>
    show win0_6.index t 0 * 512 ≤ (i 0 : Nat) ∧ (i 0 : Nat) < win0_6.index t 0 * 512 + 512
    rw [(index_codes t).1]; omega
  | ⟨1, _⟩ =>
    show win0_6.index t 1 * 2048 ≤ (i 1 : Nat) ∧ (i 1 : Nat) < win0_6.index t 1 * 2048 + 2048
    rw [(index_codes t).2]; omega

/-- So the array of codes ends holding the codes of the whole array of activations. -/
theorem final_codes (c : Dev nD) : (dats m 0 c).arrAt 6 cfg0.N = codesVal m c :=
  (dats m 0 c).arrAt_eq_of_cover 6 (codesVal m c) (fun t _ => flushed_codes m c t) cover_codes

end AnyValues

/-! ## The output array, over the extended reals -/

variable (m : (ℓ : Loc nD τ sig) → Buf (Elt Ideal) ℓ) (ρ : Dev nD → PrngReg)

/-- The layer of the whole arrays. -/
abbrev yVal (c : Dev nD) : Buf (Elt Ideal) ((c : Thread nD τ).loc main_v4_0) :=
  (Cert.Spec.linear (V m c main_v0 Cert.Spec.only) (V m c main_v1) (V m c main_arg1) (V m c main_v2) (V m c main_v3)
    : Vec Ideal S32768x4608 .bf16)

/-- What the pipeline writes back at point `t` is the layer's output at its rows. -/
theorem flushed_y (c : Dev nD) (t : Fin cfg0.N) :
    (dats m 0 c).flushed 5 t = ((cfg0.win 5).blk t).view.read (Elt Ideal) (yVal m c) := by
  show (cfg0.win 5).cut (grid0.coords t) ((dats m 0 c).after 5 t) = _
  rw [after0_5]
  unfold outsAt0
  rw [out_y, iblk_scale, iblk_w, iblk_ws, iblk_b]
  funext j
  obtain ⟨r, n, rfl⟩ : ∃ (r : Fin 512) (n : Fin 4608), j = ix2 r n := ⟨j 0, j 1, eq_ix2 j⟩
  rw [View.read_apply]
  have hj : ((cfg0.win 5).blk t).view.emb (ix2 r n) = (ix2 (row t r) n : S32768x4608.Idx) := by
    refine funext fun a => Fin.ext ?_
    match a with
    | ⟨0, _⟩ => show win0_5.index t 0 * 512 + 1 * r.val = 512 * t.val + r.val; rw [(index_y t).1]; omega
    | ⟨1, _⟩ => show win0_5.index t 1 * 4608 + 1 * n.val = n.val; rw [(index_y t).2]; omega
  rw [hj]
  exact Cert.Spec.linear_rows _ _ _ _ _ _ (row t) (fun r k => iblk_x m c t r k) r n

/-- Every element is written back at the point of its block of 512 rows. -/
theorem cover_y (i : S32768x4608.Idx) :
    ∃ t : Fin cfg0.N, (cfg0.win 5).flush t = true ∧ i ∈ ((cfg0.win 5).blk t).view.set := by
  have h0 : (i 0).val < 32768 := (i 0).isLt
  have h1 : (i 1).val < 4608 := (i 1).isLt
  obtain ⟨t, ht⟩ : ∃ t : Fin cfg0.N, t.val = (i 0).val / 512 := ⟨⟨(i 0).val / 512, by rw [show cfg0.N = 64 from N_0]; omega⟩, rfl⟩
  refine ⟨t, flush0_5 t, ?_⟩
  show i ∈ ((View.whole main_v4_0).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [(index_y t).1]; omega
  | ⟨1, _⟩ =>
    show win0_5.index t 1 * 4608 ≤ (i 1 : Nat) ∧ (i 1 : Nat) < win0_5.index t 1 * 4608 + 4608
    rw [(index_y t).2]; omega

/-- So the output array ends holding the layer of the whole arrays. -/
theorem final_y (c : Dev nD) : (dats m 0 c).arrAt 5 cfg0.N = yVal m c :=
  (dats m 0 c).arrAt_eq_of_cover 5 (yVal m c) (fun t _ => flushed_y m c t) cover_y

end Cert.KernelIdeal.Value

end
-- ==== Proof.Layer.lean ====
/-
  THE RESULTS IN THE SHAPES OF THE CALL. Both programs flatten the activations [4, 8192, 2048] to [32768, 2048], give the
  scale, the weight scales and the biases a leading unit axis, compute `codes` and `linear` on the flattened arrays
  (Spec.lean) and reshape the two results back. `layer` and
  `layerCodes` state the output and the codes directly in the call's shapes; here the detour through the flattened
  arrays is removed:

    `codes_reshape`   the codes of the flattened activations, reshaped back, are the codes of the activations
    `linear_reshape`  `linear` on the flattened arrays, reshaped back, is `layer`
-/
module

public import proofs.«01_k».proof.Proof.Spec

@[expose] public section

set_option maxRecDepth 16384

noncomputable section

namespace Cert.Spec

open Idealize.ShloMosaic Idealize.ShloMosaic.ValueIdx
open scoped BigOperators

/-- The layer's output at batch `i`, position `t` and column `n`:
    `(∑ₖ codes[i,t,k] · w[k,n]) · (scale · ws[n]) + bias[n]`, over the extended reals. -/
def layer (x : FVec Ideal ⟨3, ![4, 8192, 2048]⟩ .bf16) (w : FVec Ideal ⟨2, ![2048, 4608]⟩ .fp8e4m3)
    (ws : FVec Ideal ⟨1, ![4608]⟩ .f32) (scale : FVec Ideal ⟨0, ![]⟩ .f32) (bias : FVec Ideal ⟨1, ![4608]⟩ .bf16) :
    FVec Ideal ⟨3, ![4, 8192, 4608]⟩ .bf16 :=
  fun j => (∑ k : Fin 2048, codes (scale ix0) x (ix3 (j 0) (j 1) k) * w (ix2 k (j 2))) * (scale ix0 * ws (ix1 (j 2)))
    + bias (ix1 (j 2))

/-- The codes of the activations under the scale, in the call's shapes. -/
def layerCodes {F : FTy → Type} [FloatOps F] (x : FVec F ⟨3, ![4, 8192, 2048]⟩ .bf16) (scale : FVec F ⟨0, ![]⟩ .f32) :
    FVec F ⟨3, ![4, 8192, 2048]⟩ .fp8e4m3 := codes (scale ix0) x

/-- A scalar given a unit axis, read at its only index. -/
theorem scalar_reshape {α : Type} (v : (⟨0, ![]⟩ : Shape).Idx → α) (h : (⟨0, ![]⟩ : Shape).ShapeCasts ⟨1, ![1]⟩) :
    shapeCast ⟨1, ![1]⟩ v h only = v ix0 := congrArg v (eq_ix0 _)

/-- A row given a leading unit axis, read at column `n`. -/
theorem row_reshape {α : Type} {N : ℕ} (v : (⟨1, ![N]⟩ : Shape).Idx → α) (h : (⟨1, ![N]⟩ : Shape).ShapeCasts ⟨2, ![1, N]⟩)
    (n : Fin N) : shapeCast ⟨2, ![1, N]⟩ v h (ix2 0 n) = v (ix1 n) := by
  refine shapeCast_apply v h _ _ ?_
  rw [Shape.rowMajor_val_one, Shape.rowMajor_val_two]
  show n.val = 0 * N + n.val
  omega

/-- The codes of the flattened activations, reshaped back, are the codes of the activations. -/
theorem codes_reshape {F : FTy → Type} [FloatOps F] (x : FVec F ⟨3, ![4, 8192, 2048]⟩ .bf16) (scale : FVec F ⟨0, ![]⟩ .f32)
    (hs : (⟨0, ![]⟩ : Shape).ShapeCasts ⟨1, ![1]⟩)
    (hx : (⟨3, ![4, 8192, 2048]⟩ : Shape).ShapeCasts ⟨2, ![32768, 2048]⟩)
    (hc : (⟨2, ![32768, 2048]⟩ : Shape).ShapeCasts ⟨3, ![4, 8192, 2048]⟩) :
    shapeCast ⟨3, ![4, 8192, 2048]⟩ (codes (shapeCast ⟨1, ![1]⟩ scale hs only) (shapeCast ⟨2, ![32768, 2048]⟩ x hx)) hc
      = layerCodes x scale := by
  rw [scalar_reshape]
  show codes (scale ix0) (shapeCast _ (shapeCast _ x hx) hc) = _
  rw [shapeCast_shapeCast]
  rfl

/-- `linear` on the flattened arrays, reshaped back, is the layer. -/
theorem linear_reshape (x : FVec Ideal ⟨3, ![4, 8192, 2048]⟩ .bf16) (w : FVec Ideal ⟨2, ![2048, 4608]⟩ .fp8e4m3)
    (ws : FVec Ideal ⟨1, ![4608]⟩ .f32) (scale : FVec Ideal ⟨0, ![]⟩ .f32) (bias : FVec Ideal ⟨1, ![4608]⟩ .bf16)
    (hs : (⟨0, ![]⟩ : Shape).ShapeCasts ⟨1, ![1]⟩)
    (hx : (⟨3, ![4, 8192, 2048]⟩ : Shape).ShapeCasts ⟨2, ![32768, 2048]⟩)
    (hr : (⟨1, ![4608]⟩ : Shape).ShapeCasts ⟨2, ![1, 4608]⟩)
    (hy : (⟨2, ![32768, 4608]⟩ : Shape).ShapeCasts ⟨3, ![4, 8192, 4608]⟩) :
    shapeCast ⟨3, ![4, 8192, 4608]⟩
        (linear (shapeCast ⟨1, ![1]⟩ scale hs only) (shapeCast ⟨2, ![32768, 2048]⟩ x hx) w
          (shapeCast ⟨2, ![1, 4608]⟩ ws hr) (shapeCast ⟨2, ![1, 4608]⟩ bias hr)) hy
      = layer x w ws scale bias := by
  funext j
  obtain ⟨i, t, n, rfl⟩ : ∃ (i : Fin 4) (t : Fin 8192) (n : Fin 4608), j = ix3 i t n := ⟨j 0, j 1, j 2, eq_ix3 j⟩
  have hrow : 8192 * i.val + t.val < 32768 := by have := i.isLt; have := t.isLt; omega
  rw [shapeCast_apply _ hy (ix3 i t n) (ix2 ⟨8192 * i.val + t.val, hrow⟩ n) (by
    rw [Shape.rowMajor_val_two, Shape.rowMajor_val_three]
    show (8192 * i.val + t.val) * 4608 + n.val = (i.val * 8192 + t.val) * 4608 + n.val
    omega)]
  have hxk : ∀ k : Fin 2048, shapeCast ⟨2, ![32768, 2048]⟩ x hx (ix2 ⟨8192 * i.val + t.val, hrow⟩ k) = x (ix3 i t k) := fun k =>
    shapeCast_apply x hx _ _ (by
      rw [Shape.rowMajor_val_two, Shape.rowMajor_val_three]
      show (i.val * 8192 + t.val) * 2048 + k.val = (8192 * i.val + t.val) * 2048 + k.val
      omega)
  show (∑ k : Fin 2048, quant _ (shapeCast _ x hx (ix2 _ k)) * w (ix2 k n)) * (_ * shapeCast _ ws hr (ix2 0 n))
    + shapeCast _ bias hr (ix2 0 n) = _
  rw [scalar_reshape, row_reshape, row_reshape]
  simp only [hxk]
  rfl

end Cert.Spec

end
-- ==== Proof.KernelIdealRun.lean ====
module

public import proofs.«01_k».proof.Proof.KernelIdealArrays
public import proofs.«01_k».proof.Proof.Layer
public import Idealize.ShloMosaic.Lib.StableHlo.Run

/-! The kernel's run. The host flattens the activations and gives the scale, the weight scales and the biases a unit axis
    (`V_…`), runs the kernel, and reshapes the two arrays it leaves (`tail_…`); so every execution ends with the layer, the
    codes and the scale in the three results. -/

@[expose] public section

set_option maxRecDepth 16384

noncomputable section

namespace Cert.KernelIdeal.Value

open Idealize.ShloMosaic hiding ix0 ix2 eq_ix2
open Idealize.ShloMosaic.TcCoe Idealize.ShloMosaic.ValueIdx Idealize.SL.Sem
open Idealize.ShloMosaic.Pipeline (Dat)
open Cert.KernelIdeal Cert.KernelIdeal.Gen

section AnyValues
variable {F : FTy → Type} [FloatOps F]
variable (m : (ℓ : Loc nD τ sig) → Buf (Elt F) ℓ) (ρ : Dev nD → PrngReg)

/-! ## The host's reshapes around the kernel -/

/-- The scale the kernel reads is the scale argument given a unit axis. -/
theorem V_scale (c : Dev nD) :
    V m c main_v0 = shapeCast S1 (m ((c : Thread nD τ).loc main_arg3)) shapeCasts_S_S1 := by
  show StableHlo.after hostOps0 _ _ = _
  after_results
  rfl

/-- The activations it reads are the argument flattened to rows. -/
theorem V_x (c : Dev nD) :
    V m c main_v1 = shapeCast S32768x2048 (m ((c : Thread nD τ).loc main_arg0)) shapeCasts_S4x8192x2048_S32768x2048 := by
  show StableHlo.after hostOps0 _ _ = _
  after_results
  rfl

/-- The weight scales it reads are the argument given a unit axis. -/
theorem V_ws (c : Dev nD) :
    V m c main_v2 = shapeCast S1x4608 (m ((c : Thread nD τ).loc main_arg2)) shapeCasts_S4608_S1x4608 := by
  show StableHlo.after hostOps0 _ _ = _
  after_results
  rfl

/-- The biases it reads are the argument given a unit axis. -/
theorem V_b (c : Dev nD) :
    V m c main_v3 = shapeCast S1x4608 (m ((c : Thread nD τ).loc main_arg4)) shapeCasts_S4608_S1x4608 := by
  show StableHlo.after hostOps0 _ _ = _
  after_results
  rfl

/-- The second result is the array of codes, its rows split back into batches. -/
theorem tail_codes (c : Dev nD) :
    Pipeline.afterTail₀ cfgs (dats m) 0 (V0 m) [hostOps1] c main_v6
      = shapeCast S4x8192x2048 ((dats m 0 c).arrAt 6 cfg0.N) shapeCasts_S32768x2048_S4x8192x2048 := by
  unfold Pipeline.afterTail₀
  show StableHlo.after hostOps1 _ _ = _
  after_results
  exact congrArg (fun X => shapeCast S4x8192x2048 X shapeCasts_S32768x2048_S4x8192x2048)
    (Pipeline.withArrays_arr spec0 launch0.win.arr_inj c (V0 m c) (fun w => (dats m 0 c).arrAt w cfg0.N) 6)

/-- The first result is the output array, its rows split back into batches. -/
theorem tail_y (c : Dev nD) :
    Pipeline.afterTail₀ cfgs (dats m) 0 (V0 m) [hostOps1] c main_v5
      = shapeCast S4x8192x4608 ((dats m 0 c).arrAt 5 cfg0.N) shapeCasts_S32768x4608_S4x8192x4608 := by
  unfold Pipeline.afterTail₀
  show StableHlo.after hostOps1 _ _ = _
  after_results
  exact congrArg (fun X => shapeCast S4x8192x4608 X shapeCasts_S32768x4608_S4x8192x4608)
    (Pipeline.withArrays_arr spec0 launch0.win.arr_inj c (V0 m c) (fun w => (dats m 0 c).arrAt w cfg0.N) 5)

/-- The second result holds the codes of the activations under the scale. -/
theorem final_codes_result (c : Dev nD) :
    Pipeline.afterTail₀ cfgs (dats m) 0 (V0 m) [hostOps1] c main_v6
      = Cert.Spec.layerCodes (m ((c : Thread nD τ).loc main_arg0)) (m ((c : Thread nD τ).loc main_arg3)) := by
  rw [tail_codes, final_codes]
  unfold codesVal
  rw [V_scale, V_x]
  exact Cert.Spec.codes_reshape _ _ _ _ _

/-- The kernel's run at any values: every execution ends with the codes in the second result and the arguments — the
    third result, the scale, is one of them — unchanged. -/
theorem run_codes : θ_run defs (onTc (τ := τ) (main (F := F))) ⟨m, fun _ => 0, ρ⟩ fun r => ∀ c : Dev nD,
      r.2.mem ((c : Thread nD τ).loc main_v6)
        = Cert.Spec.layerCodes (F := F) (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨((h.1 c).2 main_v6 (Pipeline.mem_restRefs_of main_v6 (by decide) (by decide))).trans (final_codes_result m c),
        h.2 c⟩)
    (θ_run_and (run_main m ρ) (unchanged m ρ))

end AnyValues

variable (m : (ℓ : Loc nD τ sig) → Buf (Elt Ideal) ℓ) (ρ : Dev nD → PrngReg)

/-- The first result holds the layer of the five arguments. -/
theorem final_y_result (c : Dev nD) :
    Pipeline.afterTail₀ cfgs (dats m) 0 (V0 m) [hostOps1] c main_v5
      = Cert.Spec.layer (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_y, final_y]
  unfold yVal
  rw [V_scale, V_x, V_main_arg1, V_ws, V_b]
  exact Cert.Spec.linear_reshape _ _ _ _ _ _ _ _ _

/-- The kernel's run over the extended reals: every execution ends with the layer's output, the codes and the scale in
    the three results and the arguments unchanged. -/
theorem run : θ_run defs (onTc (τ := τ) (main (F := Ideal))) ⟨m, fun _ => 0, ρ⟩ fun r => ∀ c : Dev nD,
      r.2.mem ((c : Thread nD τ).loc main_v5)
        = Cert.Spec.layer (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_v6)
        = Cert.Spec.layerCodes (F := Ideal) (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨((h.1 c).2 main_v5 (Pipeline.mem_restRefs_of main_v5 (by decide) (by decide))).trans (final_y_result m c),
        ((h.1 c).2 main_v6 (Pipeline.mem_restRefs_of main_v6 (by decide) (by decide))).trans (final_codes_result m c),
        h.2 c⟩)
    (θ_run_and (run_main m ρ) (unchanged m ρ))

end Cert.KernelIdeal.Value

end
-- ==== Proof.ReferenceIdealArrays.lean ====
module

public import proofs.«01_k».proof.Proof.Spec
public import proofs.«01_k».proof.Proof.Layer
public import proofs.«01_k».proof.Proof.Gen.ReferenceIdeal.Frame
public import Idealize.ShloMosaic.Lib.Pipeline.ValueKit
public import Idealize.ShloMosaic.Lib.Tactic
public import Idealize.ShloMosaic.Lib.StableHlo.Run

/-! What the reference's one run over whole arrays leaves: the codes in one array and, over the extended reals, the layer's
    output in the other. -/

@[expose] public section

set_option maxRecDepth 16384

noncomputable section

namespace Cert.ReferenceIdeal.Value

open Idealize.ShloMosaic hiding ix0 ix2 eq_ix2
open Idealize.ShloMosaic.TcCoe Idealize.ShloMosaic.ValueIdx Idealize.SL.Sem
open Idealize.ShloMosaic.Pipeline (Dat)
open Cert.ReferenceIdeal Cert.ReferenceIdeal.Gen

section AnyValues
variable {F : FTy → Type} [FloatOps F]
variable (m : (ℓ : Loc nD τ sig) → Buf (Elt F) ℓ) (ρ : Dev nD → PrngReg)

/-- The two-axis zero offset, entry by entry. -/
theorem hz : (![0, 0] : Fin 2 → Nat) = fun _ => 0 := funext fun a => by fin_cases a <;> rfl

/-- The reference's first stored value is the codes. -/
theorem pay1_eq (v0 : Elt F .f32) (v1 : Vec F S32768x2048 .bf16) : k0_pay1 v0 v1 = Cert.Spec.codes v0 v1 := by
  unfold k0_pay1
  simp only [shapeCast_self]
  rfl

/-- WHAT THE REFERENCE LEAVES in the array of codes: the codes of the activations under the scale. -/
theorem out_codes (c : Dev nD) (arg0 : Memref sig .tc .smem S1 .f32) (harg0 : arg0.IsWhole) (arg1 : Memref sig .tc .vmem S32768x2048 .bf16) (harg1 : arg1.IsWhole) (arg2 : Memref sig .tc .vmem S2048x4608 .fp8e4m3) (harg2 : arg2.IsWhole) (arg3 : Memref sig .tc .vmem S1x4608 .f32) (harg3 : arg3.IsWhole) (arg4 : Memref sig .tc .vmem S1x4608 .bf16) (harg4 : arg4.IsWhole) (arg5 : Memref sig .tc .vmem S32768x4608 .bf16) (harg5 : arg5.IsWhole) (arg6 : Memref sig .tc .vmem S32768x2048 .fp8e4m3) (harg6 : arg6.IsWhole)
    (x0 : Vec F S1 .f32) (x1 : Vec F S32768x2048 .bf16) (x2 : Vec F S2048x4608 .fp8e4m3) (x3 : Vec F S1x4608 .f32) (x4 : Vec F S1x4608 .bf16) :
    out0_A_6 c arg0 harg0 arg1 harg1 arg2 harg2 arg3 harg3 arg4 harg4 arg5 harg5 arg6 harg6 x0 x1 x2 x3 x4
      = Cert.Spec.codes (x0 Cert.Spec.only) x1 := by
  unfold out0_A_6
  rw [View.read_writes_eq_canon _ _ _ (cover0_A_6 c arg0 harg0 arg1 harg1 arg2 harg2 arg3 harg3 arg4 harg4 arg5 harg5 arg6 harg6 x0 x1 x2 x3 x4)]
  unfold kernelRun0_A
  dsimp only
  sl_unfold_words
  rw [View.canon_unit_zero hz]
  simp only [View.readAt_eq_ld, harg0.read_unread, harg1.read_unread, View.ld_unit_zero (S := S32768x2048) hz, pay1_eq]
  exact congrArg (Cert.Spec.codes · x1) (Cert.Spec.ld_only x0 _ _)

/-- The scale as the body reads it: the one element of its array. -/
theorem iblk_scale (c : Dev nD) (t : Fin cfg0.N) : (iblk m c 0 t : Vec F S1 .f32) = V m c main_v0 := by
  funext j
  unfold iblk
  rw [View.read_apply]
  show V m c main_v0 _ = _
  refine congrArg _ (funext fun a => Fin.ext ?_)
  match a with
  | ⟨0, _⟩ => show 0 * 1 + 1 * (j 0).val = (j 0).val; omega

/-- The activations as the reference reads them: the whole array. -/
theorem iblk_x (c : Dev nD) (t : Fin cfg0.N) : (iblk m c 1 t : Vec F S32768x2048 .bf16) = V m c main_v1 := by
  funext j
  unfold iblk
  rw [View.read_apply]
  show V m c main_v1 _ = _
  refine congrArg _ (funext fun a => Fin.ext ?_)
  match a with
  | ⟨0, _⟩ => show 0 * 32768 + 1 * (j 0).val = (j 0).val; omega
  | ⟨1, _⟩ => show 0 * 2048 + 1 * (j 1).val = (j 1).val; omega

/-- The codes of the whole array of activations. -/
abbrev codesVal (c : Dev nD) : Buf (Elt F) ((c : Thread nD τ).loc main_v4_1) :=
  (Cert.Spec.codes (V m c main_v0 Cert.Spec.only) (V m c main_v1) : Vec F S32768x2048 .fp8e4m3)

/-- The one write-back of the codes is the whole of it. -/
theorem flushed_codes (c : Dev nD) (t : Fin cfg0.N) :
    (dats m 0 c).flushed 6 t = ((cfg0.win 6).blk t).view.read (Elt F) (codesVal m c) := by
  show (cfg0.win 6).cut (grid0.coords t) ((dats m 0 c).after 6 t) = _
  rw [after0_6]
  unfold outsAt0
  rw [out_codes, iblk_scale, iblk_x]
  funext j
  rw [View.read_apply]
  show _ = codesVal m c _
  refine congrArg (codesVal m c) (funext fun a => Fin.ext ?_)
  match a with
  | ⟨0, _⟩ => show (j 0).val = 0 * 32768 + 1 * (j 0).val; omega
  | ⟨1, _⟩ => show (j 1).val = 0 * 2048 + 1 * (j 1).val; omega

/-- Every element is written back at the only point. -/
theorem cover_codes (i : S32768x2048.Idx) :
    ∃ t : Fin cfg0.N, (cfg0.win 6).flush t = true ∧ i ∈ ((cfg0.win 6).blk t).view.set := by
  have h0 : (i 0).val < 32768 := (i 0).isLt
  have h1 : (i 1).val < 2048 := (i 1).isLt
  refine ⟨t0_0, by decide +kernel, ?_⟩
  show i ∈ ((View.whole main_v4_1).slice (win0_6.rect t0_0)).set
  rw [View.set_slice_whole, Rect.mem_set_unit]
  intro a
  match a with
  | ⟨0, _⟩ => show 0 * 32768 ≤ (i 0 : Nat) ∧ (i 0 : Nat) < 0 * 32768 + 32768; omega
  | ⟨1, _⟩ => show 0 * 2048 ≤ (i 1 : Nat) ∧ (i 1 : Nat) < 0 * 2048 + 2048; omega

/-- So that array ends holding it. -/
theorem final_codes (c : Dev nD) : (dats m 0 c).arrAt 6 cfg0.N = codesVal m c :=
  (dats m 0 c).arrAt_eq_of_cover 6 (codesVal m c) (fun t _ => flushed_codes m c t) cover_codes

end AnyValues

/-! ## The output array, over the extended reals -/

/-- WHAT THE REFERENCE LEAVES in the output array: the layer of the arrays it reads. -/
theorem out_y (c : Dev nD) (arg0 : Memref sig .tc .smem S1 .f32) (harg0 : arg0.IsWhole) (arg1 : Memref sig .tc .vmem S32768x2048 .bf16) (harg1 : arg1.IsWhole) (arg2 : Memref sig .tc .vmem S2048x4608 .fp8e4m3) (harg2 : arg2.IsWhole) (arg3 : Memref sig .tc .vmem S1x4608 .f32) (harg3 : arg3.IsWhole) (arg4 : Memref sig .tc .vmem S1x4608 .bf16) (harg4 : arg4.IsWhole) (arg5 : Memref sig .tc .vmem S32768x4608 .bf16) (harg5 : arg5.IsWhole) (arg6 : Memref sig .tc .vmem S32768x2048 .fp8e4m3) (harg6 : arg6.IsWhole)
    (x0 : Vec Ideal S1 .f32) (x1 : Vec Ideal S32768x2048 .bf16) (x2 : Vec Ideal S2048x4608 .fp8e4m3) (x3 : Vec Ideal S1x4608 .f32) (x4 : Vec Ideal S1x4608 .bf16) :
    out0_A_5 c arg0 harg0 arg1 harg1 arg2 harg2 arg3 harg3 arg4 harg4 arg5 harg5 arg6 harg6 x0 x1 x2 x3 x4
      = Cert.Spec.linear (x0 Cert.Spec.only) x1 x2 x3 x4 := by
  unfold out0_A_5
  rw [View.read_writes_eq_canon _ _ _ (cover0_A_5 c arg0 harg0 arg1 harg1 arg2 harg2 arg3 harg3 arg4 harg4 arg5 harg5 arg6 harg6 x0 x1 x2 x3 x4)]
  unfold kernelRun0_A
  dsimp only
  sl_unfold_words
  rw [View.canon_unit_zero hz]
  simp only [View.readAt_eq_ld, harg0.read_unread, harg1.read_unread, harg2.read_unread, harg3.read_unread, harg4.read_unread,
    View.ld_unit_zero (S := S32768x2048) hz, View.ld_unit_zero (S := S2048x4608) hz, View.ld_unit_zero (S := S1x4608) hz,
    k0_pay2, pay1_eq, shapeCast_self]
  rw [show View.ld x0 (Rect.unit ![0] ![1] inb_S1_S1_0) _ = x0 Cert.Spec.only from Cert.Spec.ld_only x0 _ _]
  exact Cert.Spec.strip_apply (M := 32768) (N := 4608) _ x1 x2 x3 x4 broadcasts_S1x4608_S32768x4608

section AnyValues
variable {F : FTy → Type} [FloatOps F]
variable (m : (ℓ : Loc nD τ sig) → Buf (Elt F) ℓ) (ρ : Dev nD → PrngReg)

/-- The weights' block is the whole array at every point. -/
theorem iblk_w (c : Dev nD) (t : Fin cfg0.N) : (iblk m c 2 t : Vec F S2048x4608 .fp8e4m3) = V m c main_arg1 := by
  funext j
  unfold iblk
  rw [View.read_apply]
  show V m c main_arg1 _ = _
  refine congrArg _ (funext fun a => Fin.ext ?_)
  match a with
  | ⟨0, _⟩ => show 0 * 2048 + 1 * (j 0).val = (j 0).val; omega
  | ⟨1, _⟩ => show 0 * 4608 + 1 * (j 1).val = (j 1).val; omega

/-- So is the weight scales'. -/
theorem iblk_ws (c : Dev nD) (t : Fin cfg0.N) : (iblk m c 3 t : Vec F S1x4608 .f32) = V m c main_v2 := by
  funext j
  unfold iblk
  rw [View.read_apply]
  show V m c main_v2 _ = _
  refine congrArg _ (funext fun a => Fin.ext ?_)
  match a with
  | ⟨0, _⟩ => show 0 * 1 + 1 * (j 0).val = (j 0).val; omega
  | ⟨1, _⟩ => show 0 * 4608 + 1 * (j 1).val = (j 1).val; omega

/-- So is the biases'. -/
theorem iblk_b (c : Dev nD) (t : Fin cfg0.N) : (iblk m c 4 t : Vec F S1x4608 .bf16) = V m c main_v3 := by
  funext j
  unfold iblk
  rw [View.read_apply]
  show V m c main_v3 _ = _
  refine congrArg _ (funext fun a => Fin.ext ?_)
  match a with
  | ⟨0, _⟩ => show 0 * 1 + 1 * (j 0).val = (j 0).val; omega
  | ⟨1, _⟩ => show 0 * 4608 + 1 * (j 1).val = (j 1).val; omega

end AnyValues

variable (m : (ℓ : Loc nD τ sig) → Buf (Elt Ideal) ℓ) (ρ : Dev nD → PrngReg)

/-- The layer of the whole arrays. -/
abbrev yVal (c : Dev nD) : Buf (Elt Ideal) ((c : Thread nD τ).loc main_v4_0) :=
  (Cert.Spec.linear (V m c main_v0 Cert.Spec.only) (V m c main_v1) (V m c main_arg1) (V m c main_v2) (V m c main_v3)
    : Vec Ideal S32768x4608 .bf16)

/-- The one write-back of the output is the whole of it. -/
theorem flushed_y (c : Dev nD) (t : Fin cfg0.N) :
    (dats m 0 c).flushed 5 t = ((cfg0.win 5).blk t).view.read (Elt Ideal) (yVal m c) := by
  show (cfg0.win 5).cut (grid0.coords t) ((dats m 0 c).after 5 t) = _
  rw [after0_5]
  unfold outsAt0
  rw [out_y, iblk_scale, iblk_x, iblk_w, iblk_ws, iblk_b]
  funext j
  rw [View.read_apply]
  show _ = yVal m c _
  refine congrArg (yVal m c) (funext fun a => Fin.ext ?_)
  match a with
  | ⟨0, _⟩ => show (j 0).val = 0 * 32768 + 1 * (j 0).val; omega
  | ⟨1, _⟩ => show (j 1).val = 0 * 4608 + 1 * (j 1).val; omega

/-- Every element is written back at the only point. -/
theorem cover_y (i : S32768x4608.Idx) :
    ∃ t : Fin cfg0.N, (cfg0.win 5).flush t = true ∧ i ∈ ((cfg0.win 5).blk t).view.set := by
  have h0 : (i 0).val < 32768 := (i 0).isLt
  have h1 : (i 1).val < 4608 := (i 1).isLt
  refine ⟨t0_0, by decide +kernel, ?_⟩
  show i ∈ ((View.whole main_v4_0).slice (win0_5.rect t0_0)).set
  rw [View.set_slice_whole, Rect.mem_set_unit]
  intro a
  match a with
  | ⟨0, _⟩ => show 0 * 32768 ≤ (i 0 : Nat) ∧ (i 0 : Nat) < 0 * 32768 + 32768; omega
  | ⟨1, _⟩ => show 0 * 4608 ≤ (i 1 : Nat) ∧ (i 1 : Nat) < 0 * 4608 + 4608; omega

/-- So that array ends holding it. -/
theorem final_y (c : Dev nD) : (dats m 0 c).arrAt 5 cfg0.N = yVal m c :=
  (dats m 0 c).arrAt_eq_of_cover 5 (yVal m c) (fun t _ => flushed_y m c t) cover_y

end Cert.ReferenceIdeal.Value

end
-- ==== Proof.ReferenceIdealRun.lean ====
module

public import proofs.«01_k».proof.Proof.ReferenceIdealArrays
public import Idealize.ShloMosaic.Lib.Pipeline.ValueKit
public import Idealize.ShloMosaic.Lib.Tactic
public import Idealize.ShloMosaic.Lib.StableHlo.Run

/-! The reference's run: the host's reshapes around its one region, and what every execution leaves in the three results. -/

@[expose] public section

set_option maxRecDepth 16384

noncomputable section

namespace Cert.ReferenceIdeal.Value

open Idealize.ShloMosaic hiding ix0 ix2 eq_ix2
open Idealize.ShloMosaic.TcCoe Idealize.ShloMosaic.ValueIdx Idealize.SL.Sem
open Idealize.ShloMosaic.Pipeline (Dat)
open Cert.ReferenceIdeal Cert.ReferenceIdeal.Gen

section AnyValues
variable {F : FTy → Type} [FloatOps F]
variable (m : (ℓ : Loc nD τ sig) → Buf (Elt F) ℓ) (ρ : Dev nD → PrngReg)

/-- The scale the region reads is the scale argument given a unit axis. -/
theorem V_scale (c : Dev nD) :
    V m c main_v0 = shapeCast S1 (m ((c : Thread nD τ).loc main_arg3)) shapeCasts_S_S1 := by
  show StableHlo.after hostOps0 _ _ = _
  after_results
  rfl

/-- The activations it reads are the argument flattened to rows. -/
theorem V_x (c : Dev nD) :
    V m c main_v1 = shapeCast S32768x2048 (m ((c : Thread nD τ).loc main_arg0)) shapeCasts_S4x8192x2048_S32768x2048 := by
  show StableHlo.after hostOps0 _ _ = _
  after_results
  rfl

/-- The weight scales it reads are the argument given a unit axis. -/
theorem V_ws (c : Dev nD) :
    V m c main_v2 = shapeCast S1x4608 (m ((c : Thread nD τ).loc main_arg2)) shapeCasts_S4608_S1x4608 := by
  show StableHlo.after hostOps0 _ _ = _
  after_results
  rfl

/-- The biases it reads are the argument given a unit axis. -/
theorem V_b (c : Dev nD) :
    V m c main_v3 = shapeCast S1x4608 (m ((c : Thread nD τ).loc main_arg4)) shapeCasts_S4608_S1x4608 := by
  show StableHlo.after hostOps0 _ _ = _
  after_results
  rfl

/-- The second result is the array of codes, its rows split back into batches. -/
theorem tail_codes (c : Dev nD) :
    Pipeline.afterTail₀ cfgs (dats m) 0 (V0 m) [hostOps1] c main_v6
      = shapeCast S4x8192x2048 ((dats m 0 c).arrAt 6 cfg0.N) shapeCasts_S32768x2048_S4x8192x2048 := by
  unfold Pipeline.afterTail₀
  show StableHlo.after hostOps1 _ _ = _
  after_results
  exact congrArg (fun X => shapeCast S4x8192x2048 X shapeCasts_S32768x2048_S4x8192x2048)
    (Pipeline.withArrays_arr spec0 launch0.win.arr_inj c (V0 m c) (fun w => (dats m 0 c).arrAt w cfg0.N) 6)

/-- The first result is the output array, its rows split back into batches. -/
theorem tail_y (c : Dev nD) :
    Pipeline.afterTail₀ cfgs (dats m) 0 (V0 m) [hostOps1] c main_v5
      = shapeCast S4x8192x4608 ((dats m 0 c).arrAt 5 cfg0.N) shapeCasts_S32768x4608_S4x8192x4608 := by
  unfold Pipeline.afterTail₀
  show StableHlo.after hostOps1 _ _ = _
  after_results
  exact congrArg (fun X => shapeCast S4x8192x4608 X shapeCasts_S32768x4608_S4x8192x4608)
    (Pipeline.withArrays_arr spec0 launch0.win.arr_inj c (V0 m c) (fun w => (dats m 0 c).arrAt w cfg0.N) 5)

/-- The second result holds the codes of the activations under the scale. -/
theorem final_codes_result (c : Dev nD) :
    Pipeline.afterTail₀ cfgs (dats m) 0 (V0 m) [hostOps1] c main_v6
      = Cert.Spec.layerCodes (m ((c : Thread nD τ).loc main_arg0)) (m ((c : Thread nD τ).loc main_arg3)) := by
  rw [tail_codes, final_codes]
  unfold codesVal
  rw [V_scale, V_x]
  exact Cert.Spec.codes_reshape _ _ _ _ _

end AnyValues

variable (m : (ℓ : Loc nD τ sig) → Buf (Elt Ideal) ℓ) (ρ : Dev nD → PrngReg)

/-- The first result holds the layer of the five arguments. -/
theorem final_y_result (c : Dev nD) :
    Pipeline.afterTail₀ cfgs (dats m) 0 (V0 m) [hostOps1] c main_v5
      = Cert.Spec.layer (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_y, final_y]
  unfold yVal
  rw [V_scale, V_x, V_main_arg1, V_ws, V_b]
  exact Cert.Spec.linear_reshape _ _ _ _ _ _ _ _ _

/-- The reference's run over the extended reals: every execution ends with the layer's output, the codes and the scale in
    the three results and the arguments unchanged. -/
theorem run : θ_run defs (onTc (τ := τ) (main (F := Ideal))) ⟨m, fun _ => 0, ρ⟩ fun r => ∀ c : Dev nD,
      r.2.mem ((c : Thread nD τ).loc main_v5)
        = Cert.Spec.layer (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_v6)
        = Cert.Spec.layerCodes (F := Ideal) (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨((h.1 c).2 main_v5 (Pipeline.mem_restRefs_of main_v5 (by decide) (by decide))).trans (final_y_result m c),
        ((h.1 c).2 main_v6 (Pipeline.mem_restRefs_of main_v6 (by decide) (by decide))).trans (final_codes_result m c),
        h.2 c⟩)
    (θ_run_and (run_main m ρ) (unchanged m ρ))

end Cert.ReferenceIdeal.Value

end
-- ==== Proof.KernelCodes.lean ====
module

public import proofs.«01_k».proof.Proof.Spec
public import proofs.«01_k».proof.Proof.Layer
public import proofs.«01_k».proof.Proof.Gen.Kernel.Frame
public import Idealize.ShloMosaic.Lib.Pipeline.ValueKit
public import Idealize.ShloMosaic.Lib.Tactic
public import Idealize.ShloMosaic.Lib.StableHlo.Run

/-! The kernel's codes and scale, at any values of the floats.

    The statements are those of `KernelIdealBlock`, `KernelIdealArrays` and `KernelIdealRun` about the codes, of the same
    kernel printed as it runs: one block's codes, the array of codes, the host's reshapes around it, and the run. -/

@[expose] public section

set_option maxRecDepth 16384

noncomputable section

namespace Cert.Kernel.Value

open Idealize.ShloMosaic hiding ix0 ix2 eq_ix2
open Idealize.ShloMosaic.TcCoe Idealize.ShloMosaic.ValueIdx Idealize.SL.Sem
open Idealize.ShloMosaic.Pipeline (Dat)
open Cert.Kernel Cert.Kernel.Gen

section AnyValues
variable {F : FTy → Type} [FloatOps F]
variable (m : (ℓ : Loc nD τ sig) → Buf (Elt F) ℓ) (ρ : Dev nD → PrngReg)

/-- The two-axis zero offset, entry by entry. -/
theorem hz : (![0, 0] : Fin 2 → Nat) = fun _ => 0 := funext fun a => by fin_cases a <;> rfl

/-- The value the body stores into the buffer of codes is the codes of the rows it read. -/
theorem pay2_eq (v0 : Elt F .f32) (v1 : Vec F S512x2048 .bf16) : k0_pay2 v0 v1 = Cert.Spec.codes v0 v1 := by
  unfold k0_pay2
  simp only [shapeCast_self]
  rfl

/-- WHAT THE BODY LEAVES in its buffer of codes: the codes of its 512 rows under the scale. -/
theorem out_codes (c : Dev nD) (i : grid0.Coords) (arg1 : Memref sig .tc .smem S1 .f32) (harg1 : arg1.IsWhole) (arg2 : Memref sig .tc .vmem S512x2048 .bf16) (harg2 : arg2.IsWhole) (arg3 : Memref sig .tc .vmem S2048x4608 .fp8e4m3) (harg3 : arg3.IsWhole) (arg4 : Memref sig .tc .vmem S1x4608 .f32) (harg4 : arg4.IsWhole) (arg5 : Memref sig .tc .vmem S1x4608 .bf16) (harg5 : arg5.IsWhole) (arg6 : Memref sig .tc .vmem S512x4608 .bf16) (harg6 : arg6.IsWhole) (arg7 : Memref sig .tc .vmem S512x2048 .fp8e4m3) (harg7 : arg7.IsWhole)
    (x0 : Vec F S1 .f32) (x1 : Vec F S512x2048 .bf16) (x2 : Vec F S2048x4608 .fp8e4m3) (x3 : Vec F S1x4608 .f32) (x4 : Vec F S1x4608 .bf16) :
    out0_A_6 c i arg1 harg1 arg2 harg2 arg3 harg3 arg4 harg4 arg5 harg5 arg6 harg6 arg7 harg7 x0 x1 x2 x3 x4
      = Cert.Spec.codes (x0 Cert.Spec.only) x1 := by
  unfold out0_A_6
  rw [View.read_writes_eq_canon _ _ _ (cover0_A_6 c i arg1 harg1 arg2 harg2 arg3 harg3 arg4 harg4 arg5 harg5 arg6 harg6 arg7 harg7 x0 x1 x2 x3 x4)]
  unfold kernelRun0_A
  dsimp only
  sl_unfold_words
  rw [View.canon_unit_zero hz]
  simp only [View.readAt_eq_ld, harg1.read_unread, harg2.read_unread, View.ld_unit_zero (S := S512x2048) hz, pay2_eq]
  exact congrArg (Cert.Spec.codes · x1) (Cert.Spec.ld_only x0 _ _)

/-- The activations' block at point `t` is block `t` of the rows and the only one of the columns. -/
theorem index_x : ∀ t : Fin grid0.N, win0_1.index t 0 = t.val ∧ win0_1.index t 1 = 0 := by decide +kernel

/-- So is the codes'. -/
theorem index_codes : ∀ t : Fin grid0.N, win0_6.index t 0 = t.val ∧ win0_6.index t 1 = 0 := by decide +kernel

/-- Row `r` of the block of point `t` is row `512 t + r` of the array. -/
def row (t : Fin cfg0.N) (r : Fin 512) : Fin 32768 :=
  ⟨512 * t.val + r.val, by have h : t.val < 64 := t.isLt.trans_eq N_0; have := r.isLt; omega⟩

/-- The scale as the body reads it: the one element of its array. -/
theorem iblk_scale (c : Dev nD) (t : Fin cfg0.N) : (iblk m c 0 t : Vec F S1 .f32) = V m c main_v0 := by
  funext j
  unfold iblk
  rw [View.read_apply]
  show V m c main_v0 _ = _
  refine congrArg _ (funext fun a => Fin.ext ?_)
  match a with
  | ⟨0, _⟩ => show 0 * 1 + 1 * (j 0).val = (j 0).val; omega

/-- The activations' block at point `t`: rows `512 t …` of the array. -/
theorem iblk_x (c : Dev nD) (t : Fin cfg0.N) (r : Fin 512) (k : Fin 2048) :
    (iblk m c 1 t : Vec F S512x2048 .bf16) (ix2 r k) = V m c main_v1 (ix2 (row t r) k) := by
  unfold iblk
  rw [View.read_apply]
  show V m c main_v1 _ = _
  refine congrArg _ (funext fun a => Fin.ext ?_)
  match a with
  | ⟨0, _⟩ => show win0_1.index t 0 * 512 + 1 * r.val = 512 * t.val + r.val; rw [(index_x t).1]; omega
  | ⟨1, _⟩ => show win0_1.index t 1 * 2048 + 1 * k.val = k.val; rw [(index_x t).2]; omega

/-- The codes of the whole array of activations. -/
abbrev codesVal (c : Dev nD) : Buf (Elt F) ((c : Thread nD τ).loc main_v4_1) :=
  (Cert.Spec.codes (V m c main_v0 Cert.Spec.only) (V m c main_v1) : Vec F S32768x2048 .fp8e4m3)

/-- What the pipeline writes back at point `t` is the codes of its rows. -/
theorem flushed_codes (c : Dev nD) (t : Fin cfg0.N) :
    (dats m 0 c).flushed 6 t = ((cfg0.win 6).blk t).view.read (Elt F) (codesVal m c) := by
  show (cfg0.win 6).cut (grid0.coords t) ((dats m 0 c).after 6 t) = _
  rw [after0_6]
  unfold outsAt0
  rw [out_codes, iblk_scale]
  funext j
  obtain ⟨r, k, rfl⟩ : ∃ (r : Fin 512) (k : Fin 2048), j = ix2 r k := ⟨j 0, j 1, eq_ix2 j⟩
  rw [View.read_apply]
  show Cert.Spec.quant _ ((iblk m c 1 t : Vec F S512x2048 .bf16) (ix2 r k)) = Cert.Spec.quant _ (V m c main_v1 _)
  rw [iblk_x]
  refine congrArg (fun i => Cert.Spec.quant _ (V m c main_v1 i)) (funext fun a => Fin.ext ?_)
  match a with
  | ⟨0, _⟩ => show 512 * t.val + r.val = win0_6.index t 0 * 512 + 1 * r.val; rw [(index_codes t).1]; omega
  | ⟨1, _⟩ => show k.val = win0_6.index t 1 * 2048 + 1 * k.val; rw [(index_codes t).2]; omega

/-- Every element is written back at the point of its block of 512 rows. -/
theorem cover_codes (i : S32768x2048.Idx) :
    ∃ t : Fin cfg0.N, (cfg0.win 6).flush t = true ∧ i ∈ ((cfg0.win 6).blk t).view.set := by
  have h0 : (i 0).val < 32768 := (i 0).isLt
  have h1 : (i 1).val < 2048 := (i 1).isLt
  obtain ⟨t, ht⟩ : ∃ t : Fin cfg0.N, t.val = (i 0).val / 512 := ⟨⟨(i 0).val / 512, by rw [show cfg0.N = 64 from N_0]; omega⟩, rfl⟩
  refine ⟨t, flush0_6 t, ?_⟩
  show i ∈ ((View.whole main_v4_1).slice (win0_6.rect t)).set
  rw [View.set_slice_whole, Rect.mem_set_unit]
  intro a
  match a with
  | ⟨0, _⟩ =>
    show win0_6.index t 0 * 512 ≤ (i 0 : Nat) ∧ (i 0 : Nat) < win0_6.index t 0 * 512 + 512
    rw [(index_codes t).1]; omega
  | ⟨1, _⟩ =>
    show win0_6.index t 1 * 2048 ≤ (i 1 : Nat) ∧ (i 1 : Nat) < win0_6.index t 1 * 2048 + 2048
    rw [(index_codes t).2]; omega

/-- So the array of codes ends holding the codes of the whole array of activations. -/
theorem final_codes (c : Dev nD) : (dats m 0 c).arrAt 6 cfg0.N = codesVal m c :=
  (dats m 0 c).arrAt_eq_of_cover 6 (codesVal m c) (fun t _ => flushed_codes m c t) cover_codes

/-- The scale the kernel reads is the scale argument given a unit axis. -/
theorem V_scale (c : Dev nD) :
    V m c main_v0 = shapeCast S1 (m ((c : Thread nD τ).loc main_arg3)) shapeCasts_S_S1 := by
  show StableHlo.after hostOps0 _ _ = _
  after_results
  rfl

/-- The activations it reads are the argument flattened to rows. -/
theorem V_x (c : Dev nD) :
    V m c main_v1 = shapeCast S32768x2048 (m ((c : Thread nD τ).loc main_arg0)) shapeCasts_S4x8192x2048_S32768x2048 := by
  show StableHlo.after hostOps0 _ _ = _
  after_results
  rfl

/-- The second result is the array of codes, its rows split back into batches. -/
theorem tail_codes (c : Dev nD) :
    Pipeline.afterTail₀ cfgs (dats m) 0 (V0 m) [hostOps1] c main_v6
      = shapeCast S4x8192x2048 ((dats m 0 c).arrAt 6 cfg0.N) shapeCasts_S32768x2048_S4x8192x2048 := by
  unfold Pipeline.afterTail₀
  show StableHlo.after hostOps1 _ _ = _
  after_results
  exact congrArg (fun X => shapeCast S4x8192x2048 X shapeCasts_S32768x2048_S4x8192x2048)
    (Pipeline.withArrays_arr spec0 launch0.win.arr_inj c (V0 m c) (fun w => (dats m 0 c).arrAt w cfg0.N) 6)

/-- The second result holds the codes of the activations under the scale. -/
theorem final_codes_result (c : Dev nD) :
    Pipeline.afterTail₀ cfgs (dats m) 0 (V0 m) [hostOps1] c main_v6
      = Cert.Spec.layerCodes (m ((c : Thread nD τ).loc main_arg0)) (m ((c : Thread nD τ).loc main_arg3)) := by
  rw [tail_codes, final_codes]
  unfold codesVal
  rw [V_scale, V_x]
  exact Cert.Spec.codes_reshape _ _ _ _ _

/-- The kernel's run at any values: every execution ends with the codes in the second result and the arguments — the
    third result, the scale, is one of them — unchanged. -/
theorem run_codes : θ_run defs (onTc (τ := τ) (main (F := F))) ⟨m, fun _ => 0, ρ⟩ fun r => ∀ c : Dev nD,
      r.2.mem ((c : Thread nD τ).loc main_v6)
        = Cert.Spec.layerCodes (F := F) (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨((h.1 c).2 main_v6 (Pipeline.mem_restRefs_of main_v6 (by decide) (by decide))).trans (final_codes_result m c),
        h.2 c⟩)
    (θ_run_and (run_main m ρ) (unchanged m ρ))

end AnyValues

end Cert.Kernel.Value

end
-- ==== Proof.ReferenceCodes.lean ====
module

public import proofs.«01_k».proof.Proof.Spec
public import proofs.«01_k».proof.Proof.Layer
public import proofs.«01_k».proof.Proof.Gen.Reference.Frame
public import Idealize.ShloMosaic.Lib.Pipeline.ValueKit
public import Idealize.ShloMosaic.Lib.Tactic
public import Idealize.ShloMosaic.Lib.StableHlo.Run

/-! The reference's codes and scale, at any values of the floats: the statements of `ReferenceIdealArrays` and
    `ReferenceIdealRun` about the codes, of the same reference printed as it runs. -/

@[expose] public section

set_option maxRecDepth 16384

noncomputable section

namespace Cert.Reference.Value

open Idealize.ShloMosaic hiding ix0 ix2 eq_ix2
open Idealize.ShloMosaic.TcCoe Idealize.ShloMosaic.ValueIdx Idealize.SL.Sem
open Idealize.ShloMosaic.Pipeline (Dat)
open Cert.Reference Cert.Reference.Gen

section AnyValues
variable {F : FTy → Type} [FloatOps F]
variable (m : (ℓ : Loc nD τ sig) → Buf (Elt F) ℓ) (ρ : Dev nD → PrngReg)

/-- The two-axis zero offset, entry by entry. -/
theorem hz : (![0, 0] : Fin 2 → Nat) = fun _ => 0 := funext fun a => by fin_cases a <;> rfl

/-- The reference's first stored value is the codes. -/
theorem pay1_eq (v0 : Elt F .f32) (v1 : Vec F S32768x2048 .bf16) : k0_pay1 v0 v1 = Cert.Spec.codes v0 v1 := by
  unfold k0_pay1
  simp only [shapeCast_self]
  rfl

/-- WHAT THE REFERENCE LEAVES in the array of codes: the codes of the activations under the scale. -/
theorem out_codes (c : Dev nD) (arg0 : Memref sig .tc .smem S1 .f32) (harg0 : arg0.IsWhole) (arg1 : Memref sig .tc .vmem S32768x2048 .bf16) (harg1 : arg1.IsWhole) (arg2 : Memref sig .tc .vmem S2048x4608 .fp8e4m3) (harg2 : arg2.IsWhole) (arg3 : Memref sig .tc .vmem S1x4608 .f32) (harg3 : arg3.IsWhole) (arg4 : Memref sig .tc .vmem S1x4608 .bf16) (harg4 : arg4.IsWhole) (arg5 : Memref sig .tc .vmem S32768x4608 .bf16) (harg5 : arg5.IsWhole) (arg6 : Memref sig .tc .vmem S32768x2048 .fp8e4m3) (harg6 : arg6.IsWhole)
    (x0 : Vec F S1 .f32) (x1 : Vec F S32768x2048 .bf16) (x2 : Vec F S2048x4608 .fp8e4m3) (x3 : Vec F S1x4608 .f32) (x4 : Vec F S1x4608 .bf16) :
    out0_A_6 c arg0 harg0 arg1 harg1 arg2 harg2 arg3 harg3 arg4 harg4 arg5 harg5 arg6 harg6 x0 x1 x2 x3 x4
      = Cert.Spec.codes (x0 Cert.Spec.only) x1 := by
  unfold out0_A_6
  rw [View.read_writes_eq_canon _ _ _ (cover0_A_6 c arg0 harg0 arg1 harg1 arg2 harg2 arg3 harg3 arg4 harg4 arg5 harg5 arg6 harg6 x0 x1 x2 x3 x4)]
  unfold kernelRun0_A
  dsimp only
  sl_unfold_words
  rw [View.canon_unit_zero hz]
  simp only [View.readAt_eq_ld, harg0.read_unread, harg1.read_unread, View.ld_unit_zero (S := S32768x2048) hz, pay1_eq]
  exact congrArg (Cert.Spec.codes · x1) (Cert.Spec.ld_only x0 _ _)

/-- The scale as the body reads it: the one element of its array. -/
theorem iblk_scale (c : Dev nD) (t : Fin cfg0.N) : (iblk m c 0 t : Vec F S1 .f32) = V m c main_v0 := by
  funext j
  unfold iblk
  rw [View.read_apply]
  show V m c main_v0 _ = _
  refine congrArg _ (funext fun a => Fin.ext ?_)
  match a with
  | ⟨0, _⟩ => show 0 * 1 + 1 * (j 0).val = (j 0).val; omega

/-- The activations as the reference reads them: the whole array. -/
theorem iblk_x (c : Dev nD) (t : Fin cfg0.N) : (iblk m c 1 t : Vec F S32768x2048 .bf16) = V m c main_v1 := by
  funext j
  unfold iblk
  rw [View.read_apply]
  show V m c main_v1 _ = _
  refine congrArg _ (funext fun a => Fin.ext ?_)
  match a with
  | ⟨0, _⟩ => show 0 * 32768 + 1 * (j 0).val = (j 0).val; omega
  | ⟨1, _⟩ => show 0 * 2048 + 1 * (j 1).val = (j 1).val; omega

/-- The codes of the whole array of activations. -/
abbrev codesVal (c : Dev nD) : Buf (Elt F) ((c : Thread nD τ).loc main_v4_1) :=
  (Cert.Spec.codes (V m c main_v0 Cert.Spec.only) (V m c main_v1) : Vec F S32768x2048 .fp8e4m3)

/-- The one write-back of the codes is the whole of it. -/
theorem flushed_codes (c : Dev nD) (t : Fin cfg0.N) :
    (dats m 0 c).flushed 6 t = ((cfg0.win 6).blk t).view.read (Elt F) (codesVal m c) := by
  show (cfg0.win 6).cut (grid0.coords t) ((dats m 0 c).after 6 t) = _
  rw [after0_6]
  unfold outsAt0
  rw [out_codes, iblk_scale, iblk_x]
  funext j
  rw [View.read_apply]
  show _ = codesVal m c _
  refine congrArg (codesVal m c) (funext fun a => Fin.ext ?_)
  match a with
  | ⟨0, _⟩ => show (j 0).val = 0 * 32768 + 1 * (j 0).val; omega
  | ⟨1, _⟩ => show (j 1).val = 0 * 2048 + 1 * (j 1).val; omega

/-- Every element is written back at the only point. -/
theorem cover_codes (i : S32768x2048.Idx) :
    ∃ t : Fin cfg0.N, (cfg0.win 6).flush t = true ∧ i ∈ ((cfg0.win 6).blk t).view.set := by
  have h0 : (i 0).val < 32768 := (i 0).isLt
  have h1 : (i 1).val < 2048 := (i 1).isLt
  refine ⟨t0_0, by decide +kernel, ?_⟩
  show i ∈ ((View.whole main_v4_1).slice (win0_6.rect t0_0)).set
  rw [View.set_slice_whole, Rect.mem_set_unit]
  intro a
  match a with
  | ⟨0, _⟩ => show 0 * 32768 ≤ (i 0 : Nat) ∧ (i 0 : Nat) < 0 * 32768 + 32768; omega
  | ⟨1, _⟩ => show 0 * 2048 ≤ (i 1 : Nat) ∧ (i 1 : Nat) < 0 * 2048 + 2048; omega

/-- So that array ends holding it. -/
theorem final_codes (c : Dev nD) : (dats m 0 c).arrAt 6 cfg0.N = codesVal m c :=
  (dats m 0 c).arrAt_eq_of_cover 6 (codesVal m c) (fun t _ => flushed_codes m c t) cover_codes

/-- The scale the region reads is the scale argument given a unit axis. -/
theorem V_scale (c : Dev nD) :
    V m c main_v0 = shapeCast S1 (m ((c : Thread nD τ).loc main_arg3)) shapeCasts_S_S1 := by
  show StableHlo.after hostOps0 _ _ = _
  after_results
  rfl

/-- The activations it reads are the argument flattened to rows. -/
theorem V_x (c : Dev nD) :
    V m c main_v1 = shapeCast S32768x2048 (m ((c : Thread nD τ).loc main_arg0)) shapeCasts_S4x8192x2048_S32768x2048 := by
  show StableHlo.after hostOps0 _ _ = _
  after_results
  rfl

/-- The second result is the array of codes, its rows split back into batches. -/
theorem tail_codes (c : Dev nD) :
    Pipeline.afterTail₀ cfgs (dats m) 0 (V0 m) [hostOps1] c main_v6
      = shapeCast S4x8192x2048 ((dats m 0 c).arrAt 6 cfg0.N) shapeCasts_S32768x2048_S4x8192x2048 := by
  unfold Pipeline.afterTail₀
  show StableHlo.after hostOps1 _ _ = _
  after_results
  exact congrArg (fun X => shapeCast S4x8192x2048 X shapeCasts_S32768x2048_S4x8192x2048)
    (Pipeline.withArrays_arr spec0 launch0.win.arr_inj c (V0 m c) (fun w => (dats m 0 c).arrAt w cfg0.N) 6)

/-- The second result holds the codes of the activations under the scale. -/
theorem final_codes_result (c : Dev nD) :
    Pipeline.afterTail₀ cfgs (dats m) 0 (V0 m) [hostOps1] c main_v6
      = Cert.Spec.layerCodes (m ((c : Thread nD τ).loc main_arg0)) (m ((c : Thread nD τ).loc main_arg3)) := by
  rw [tail_codes, final_codes]
  unfold codesVal
  rw [V_scale, V_x]
  exact Cert.Spec.codes_reshape _ _ _ _ _

/-- The reference's run at any values: every execution ends with the codes in the second result and the arguments — the
    third result, the scale, is one of them — unchanged. -/
theorem run_codes : θ_run defs (onTc (τ := τ) (main (F := F))) ⟨m, fun _ => 0, ρ⟩ fun r => ∀ c : Dev nD,
      r.2.mem ((c : Thread nD τ).loc main_v6)
        = Cert.Spec.layerCodes (F := F) (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨((h.1 c).2 main_v6 (Pipeline.mem_restRefs_of main_v6 (by decide) (by decide))).trans (final_codes_result m c),
        h.2 c⟩)
    (θ_run_and (run_main m ρ) (unchanged m ρ))

end AnyValues

end Cert.Reference.Value

end
-- ==== Proof.Equation.lean ====
module

public import proofs.«01_k».proof.Defs
public import proofs.«01_k».proof.Proof.KernelIdealRun
public import proofs.«01_k».proof.Proof.ReferenceIdealRun
public import proofs.«01_k».proof.Proof.KernelCodes
public import proofs.«01_k».proof.Proof.ReferenceCodes
public import proofs.«01_k».proof.Proof.Gen.On_codes_and_scale

/-! The two equations between the kernel and the reference: all three results over the extended reals, and the codes and
    the scale bit for bit. Each program's run is stated by the same functions of its arguments (`Spec`), so from equal
    arguments the results are equal. -/

@[expose] public section

noncomputable section

namespace Cert.Proof

open Idealize.ShloMosaic Idealize.ShloMosaic.TcCoe Idealize.SL.Sem

/-- OVER THE EXTENDED REALS the kernel and the reference, from equal arguments, end with equal outputs, equal codes and
    equal scales, their arguments unchanged. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.Spec.layer (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)),
    fun c => Cert.Spec.layerCodes (F := Ideal) (m (c.tc.loc Cert.KernelIdeal.main_arg0)) (m (c.tc.loc Cert.KernelIdeal.main_arg3)),
    fun c => m (c.tc.loc Cert.KernelIdeal.main_arg3), ?_, ?_⟩
  · exact (θ_run _ _ _).mono (fun _ h c => ⟨(h c).1, (h c).2.1, (h c).2.2.2.2.2.1, (h c).2.2⟩) (Cert.KernelIdeal.Value.run m g)
  · refine (θ_run _ _ _).mono (fun _ h c => ?_) (Cert.ReferenceIdeal.Value.run m' g')
    obtain ⟨a0, a1, a2, a3, a4⟩ := hagree c
    obtain ⟨hy, hq, hargs⟩ := h c
    refine ⟨hy.trans ?_, hq.trans ?_, hargs.2.2.2.1.trans a3, hargs⟩
    · rw [a0, a1, a2, a3, a4]
    · rw [a0, a3]

/-- BIT FOR BIT the kernel and the reference, from equal arguments, end with equal codes and equal scales, their arguments
    unchanged. Of the output nothing is said here: the mask leaves its elements out. -/
theorem bitexact : Cert.bitexact_Kernel_Reference_on_codes_and_scale (hKernel := Cert.Kernel.Gen.facts)
    (hReference := Cert.Reference.Gen.facts) (hOn_codes_and_scale := Cert.On_codes_and_scale.Gen.facts) := by
  intro m g m' g' _ hagree
  refine ⟨fun c => m (c.tc.loc Cert.Kernel.main_v5),
    fun c => Cert.Spec.layerCodes (F := Bits) (m (c.tc.loc Cert.Kernel.main_arg0)) (m (c.tc.loc Cert.Kernel.main_arg3)),
    fun c => m (c.tc.loc Cert.Kernel.main_arg3), ?_, ?_⟩
  · refine (θ_run _ _ _).mono (fun _ h c => ?_) (Cert.Kernel.Value.run_codes m g)
    obtain ⟨hq, hargs⟩ := h c
    exact ⟨fun i hi => absurd hi (show ¬(0#1 : BitVec 1) = 1#1 by decide), fun i _ => congrFun hq i,
      fun i _ => congrFun hargs.2.2.2.1 i, hargs⟩
  · refine (θ_run _ _ _).mono (fun _ h c => ?_) (Cert.Reference.Value.run_codes m' g')
    obtain ⟨a0, a1, a2, a3, a4⟩ := hagree c
    obtain ⟨hq, hargs⟩ := h c
    have hq' := hq.trans (show _ = Cert.Spec.layerCodes (F := Bits) (m (c.tc.loc Cert.Kernel.main_arg0)) (m (c.tc.loc Cert.Kernel.main_arg3)) by
      rw [a0, a3])
    exact ⟨fun i hi => absurd hi (show ¬(0#1 : BitVec 1) = 1#1 by decide), fun i _ => congrFun hq' i,
      fun i _ => congrFun (hargs.2.2.2.1.trans a3) i, hargs⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.On_codes_and_scale
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything claimed: the four programs run, end with unchanged arguments and every semaphore at zero; the idealized
    kernel is the kernel's own text; the kernel equals the reference over the extended reals in all three results; and
    the codes and the scale are equal bit for bit. -/
theorem claim : Cert.Claim := ⟨Cert.Kernel.Gen.facts, Cert.KernelIdeal.Gen.facts, Cert.ReferenceIdeal.Gen.facts, Cert.Reference.Gen.facts, Cert.On_codes_and_scale.Gen.facts,
  fun m g _ => Cert.Kernel.Gen.frame m g, fun m g _ => Cert.KernelIdeal.Gen.frame m g,
  fun m g _ => Cert.ReferenceIdeal.Gen.frame m g, fun m g _ => Cert.Reference.Gen.frame m g, trivial, algebraic, bitexact⟩

end Cert.Proof

end
